-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x4096x12x64 : Shape := ⟨4, ![2, 4096, 12, 64]⟩
abbrev S2x4096 : Shape := ⟨2, ![2, 4096]⟩
abbrev S32x65 : Shape := ⟨2, ![32, 65]⟩
abbrev S_ : Shape := ⟨0, ![]⟩
abbrev S2 : Shape := ⟨1, ![2]⟩

class Facts : Prop where
  reducesTo_S2x4096_S2_d1 : S2x4096.ReducesTo [1] S2
  h_S_ : 0 < S_.numel
  bcast_S_S2x4096x12x64 : S_.BroadcastsInDim S2x4096x12x64 (![] : Fin 0 → Fin S2x4096x12x64.rank)
  reducesTo_S2x4096x12x64_S_d0_1_2_3 : S2x4096x12x64.ReducesTo [0, 1, 2, 3] S_
  bcast_S_S2x4096 : S_.BroadcastsInDim S2x4096 (![] : Fin 0 → Fin S2x4096.rank)
  reducesTo_S2x4096_S_d0_1 : S2x4096.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v15 : IVec S2 1) : IVec S_ 1 :=
  let main_c_6 : IVec S_ 1 := constantI S_ 1 1#1
  let main_v16 : IVec S_ 1 := (fun x v => Host.reduce IntOp.andi x v reducesTo_S2_S_d0 h_S_) main_v15 main_c_6
  let main_v17 : IVec S_ 1 := andi main_v13 main_v16
  main_v17

def fn {F : FTy → Type} [FloatOps F] (main_arg0 : FVec F S2x4096x12x64 .f32) (main_arg1 : FVec F S2x4096x12x64 .f32) (main_arg2 : FVec F S2x4096x12x64 .f32) (main_arg3 : FVec F S2x4096 .f32) (main_arg4 : FVec F S32x65 .f32) : IVec S_ 1 :=
  let main_cst : FVec F S_ .f32 := constant S_ .f32 0xFF800000#32
  let main_v0 : FVec F S2 .f32 := (fun x v => Host.reduce FloatOps.maximumf x v reducesTo_S2x4096_S2_d1 h_S_) main_arg3 main_cst
  let main_v1 : FVec F S2x4096x12x64 .f32 := Host.absf main_arg0
  let main_cst_0 : FVec F S_ .f32 := constant S_ .f32 0x7F800000#32
  let main_v2 : FVec F S2x4096x12x64 .f32 := broadcastInDim S2x4096x12x64 ![] bcast_S_S2x4096x12x64 main_cst_0
  let main_v3 : IVec S2x4096x12x64 1 := cmpf .olt main_v1 main_v2
  let main_c : IVec S_ 1 := constantI S_ 1 1#1
  let main_v4 : IVec S_ 1 := (fun x v => Host.reduce IntOp.andi x v reducesTo_S2x4096x12x64_S_d0_1_2_3 h_S_) main_v3 main_c
  let main_v5 : FVec F S2x4096x12x64 .f32 := Host.absf main_arg1
  let main_cst_1 : FVec F S_ .f32 := constant S_ .f32 0x7F800000#32
  let main_v6 : FVec F S2x4096x12x64 .f32 := broadcastInDim S2x4096x12x64 ![] bcast_S_S2x4096x12x64 main_cst_1
  let main_v7 : IVec S2x4096x12x64 1 := cmpf .olt main_v5 main_v6
  let main_c_2 : IVec S_ 1 := constantI S_ 1 1#1
  let main_v8 : IVec S_ 1 := (fun x v => Host.reduce IntOp.andi x v reducesTo_S2x4096x12x64_S_d0_1_2_3 h_S_) main_v7 main_c_2
  let main_v9 : IVec S_ 1 := andi main_v4 main_v8
  let main_cst_3 : FVec F S_ .f32 := constant S_ .f32 0x7F800000#32
  let main_v10 : FVec F S2x4096 .f32 := broadcastInDim S2x4096 ![] bcast_S_S2x4096 main_cst_3
  let main_v11 : IVec S2x4096 1 := cmpf .olt main_arg3 main_v10
  let main_c_4 : IVec S_ 1 := constantI S_ 1 1#1
  let main_v12 : IVec S_ 1 := (fun x v => Host.reduce IntOp.andi x v reducesTo_S2x4096_S_d0_1 h_S_) main_v11 main_c_4
  let main_v13 : IVec S_ 1 := andi main_v9 main_v12
  let main_cst_5 : FVec F S_ .f32 := constant S_ .f32 0xFF800000#32
  let main_v14 : FVec F S2 .f32 := broadcastInDim S2 ![] bcast_S_S2 main_cst_5
  let main_v15 : IVec S2 1 := cmpf .ogt main_v0 main_v14
  fn_part1 (F := F) main_v13 main_v15
-- ==== Kernel.lean ====
abbrev S2x4096x12x64 : Shape := ⟨4, ![2, 4096, 12, 64]⟩
abbrev S2x4096 : Shape := ⟨2, ![2, 4096]⟩
abbrev S32x65 : Shape := ⟨2, ![32, 65]⟩
abbrev S2x12x4096x64 : Shape := ⟨4, ![2, 12, 4096, 64]⟩
abbrev S24x4096x64 : Shape := ⟨3, ![24, 4096, 64]⟩
abbrev S2x1x4096 : Shape := ⟨3, ![2, 1, 4096]⟩
abbrev S1x4096x64 : Shape := ⟨3, ![1, 4096, 64]⟩
abbrev S1x1x4096 : Shape := ⟨3, ![1, 1, 4096]⟩
abbrev S4096x64 : Shape := ⟨2, ![4096, 64]⟩
abbrev S32x64 : Shape := ⟨2, ![32, 64]⟩
abbrev S32x1 : Shape := ⟨2, ![32, 1]⟩
abbrev S32 : Shape := ⟨1, ![32]⟩
abbrev S64x32 : Shape := ⟨2, ![64, 32]⟩
abbrev S4096x32 : Shape := ⟨2, ![4096, 32]⟩
abbrev S1x32 : Shape := ⟨2, ![1, 32]⟩
abbrev S4096x1 : Shape := ⟨2, ![4096, 1]⟩
abbrev S4096x33 : Shape := ⟨2, ![4096, 33]⟩
abbrev S128x4096 : Shape := ⟨2, ![128, 4096]⟩
abbrev S128x32 : Shape := ⟨2, ![128, 32]⟩
abbrev S128x1 : Shape := ⟨2, ![128, 1]⟩
abbrev S128 : Shape := ⟨1, ![128]⟩
abbrev S4096 : Shape := ⟨1, ![4096]⟩
abbrev S1x4096 : Shape := ⟨2, ![1, 4096]⟩
abbrev S128x33 : Shape := ⟨2, ![128, 33]⟩
abbrev S128x64 : Shape := ⟨2, ![128, 64]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x12x64, .f32⟩
  | .hbm, ⟨1, _⟩ => ⟨S2x4096x12x64, .f32⟩
  | .hbm, ⟨2, _⟩ => ⟨S2x4096x12x64, .f32⟩
  | .hbm, ⟨3, _⟩ => ⟨S2x4096, .f32⟩
  | .hbm, ⟨4, _⟩ => ⟨S32x65, .f32⟩
  | .hbm, ⟨5, _⟩ => ⟨S2x12x4096x64, .f32⟩
  | .hbm, ⟨6, _⟩ => ⟨S24x4096x64, .f32⟩
  | .hbm, ⟨7, _⟩ => ⟨S2x12x4096x64, .f32⟩
  | .hbm, ⟨8, _⟩ => ⟨S24x4096x64, .f32⟩
  | .hbm, ⟨9, _⟩ => ⟨S2x12x4096x64, .f32⟩
  | .hbm, ⟨10, _⟩ => ⟨S24x4096x64, .f32⟩
  | .hbm, ⟨11, _⟩ => ⟨S2x1x4096, .f32⟩
  | .hbm, ⟨12, _⟩ => ⟨S24x4096x64, .f32⟩
  | .hbm, ⟨13, _⟩ => ⟨S2x12x4096x64, .f32⟩
  | .hbm, ⟨14, _⟩ => ⟨S2x4096x12x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x1x4096, .f32⟩
  | .local _ .vmem, ⟨7, _⟩ => ⟨S1x1x4096, .f32⟩
  | .local _ .vmem, ⟨8, _⟩ => ⟨S32x65, .f32⟩
  | .local _ .vmem, ⟨9, _⟩ => ⟨S1x4096x64, .f32⟩
  | .local _ .vmem, ⟨10, _⟩ => ⟨S1x4096x64, .f32⟩
  | _, _ => ⟨S2x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c10_i32 : BitVec 32 := 10#32
  let v28 : BitVec 32 := Scalar.addi c0_i32 c10_i32
  let c1_i32 : BitVec 32 := 1#32
  ⟨c0_i32, v28, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x12x64 : Shape := ⟨4, ![2, 4096, 12, 64]⟩
abbrev S2x4096 : Shape := ⟨2, ![2, 4096]⟩
abbrev S32x65 : Shape := ⟨2, ![32, 65]⟩
abbrev S128 : Shape := ⟨1, ![128]⟩
abbrev S2x12x4096x64 : Shape := ⟨4, ![2, 12, 4096, 64]⟩
abbrev S32x64 : Shape := ⟨2, ![32, 64]⟩
abbrev S2x12x4096x32 : Shape := ⟨4, ![2, 12, 4096, 32]⟩
abbrev S32x1 : Shape := ⟨2, ![32, 1]⟩
abbrev S32 : Shape := ⟨1, ![32]⟩
abbrev S1x1x1x32 : Shape := ⟨4, ![1, 1, 1, 32]⟩
abbrev S_ : Shape := ⟨0, ![]⟩
abbrev S128x1 : Shape := ⟨2, ![128, 1]⟩
abbrev S2x12x128x32 : Shape := ⟨4, ![2, 12, 128, 32]⟩
abbrev S2x12x4096 : Shape := ⟨3, ![2, 12, 4096]⟩
abbrev S2x12x128 : Shape := ⟨3, ![2, 12, 128]⟩
abbrev S2x12x4096x128 : Shape := ⟨4, ![2, 12, 4096, 128]⟩
abbrev S2x12x4096x1 : Shape := ⟨4, ![2, 12, 4096, 1]⟩
abbrev S2x12x1x128 : Shape := ⟨4, ![2, 12, 1, 128]⟩
abbrev S1x1x1x128 : Shape := ⟨4, ![1, 1, 1, 128]⟩
abbrev S2x12x128x1 : Shape := ⟨4, ![2, 12, 128, 1]⟩
abbrev S2x12x128x64 : Shape := ⟨4, ![2, 12, 128, 64]⟩
abbrev S2x12x128x4096 : Shape := ⟨4, ![2, 12, 128, 4096]⟩
abbrev S2x1x1x4096 : Shape := ⟨4, ![2, 1, 1, 4096]⟩
abbrev S1 : Shape := ⟨1, ![1]⟩
abbrev S1x1x1x1 : Shape := ⟨4, ![1, 1, 1, 1]⟩

abbrev nBuf : Space → Nat
  | .hbm => 152
  | .vmem => 0
  | .smem => 0
  | _ => 0

abbrev hbmTy0_0 (i : Nat) : BufTy := match i % 128 with
  | 0 => ⟨S2x4096x12x64, .f32⟩
  | 1 => ⟨S2x4096x12x64, .f32⟩
  | 2 => ⟨S2x4096x12x64, .f32⟩
  | 3 => ⟨S2x4096, .f32⟩
  | 4 => ⟨S32x65, .f32⟩
  | 5 => ⟨S128, .i32⟩
  | 6 => ⟨S128, .i1⟩
  | 7 => ⟨S2x12x4096x64, .f32⟩
  | 8 => ⟨S2x12x4096x64, .f32⟩
  | 9 => ⟨S2x12x4096x64, .f32⟩
  | 10 => ⟨S32x64, .f32⟩
  | 11 => ⟨S2x12x4096x32, .f32⟩
  | 12 => ⟨S32x1, .f32⟩
  | 13 => ⟨S32, .f32⟩
  | 14 => ⟨S1x1x1x32, .f32⟩
  | 15 => ⟨S2x12x4096x32, .f32⟩
  | 16 => ⟨S2x12x4096x32, .f32⟩
  | 17 => ⟨S_, .f32⟩
  | 18 => ⟨S2x12x4096x32, .f32⟩
  | 19 => ⟨S2x12x4096x32, .i1⟩
  | 20 => ⟨S2x12x4096x32, .f32⟩
  | 21 => ⟨S_, .i32⟩
  | 22 => ⟨S128, .i32⟩
  | 23 => ⟨S128, .i32⟩
  | 24 => ⟨S128, .i32⟩
  | 25 => ⟨S128x1, .i32⟩
  | 26 => ⟨S2x12x128x32, .f32⟩
  | 27 => ⟨S_, .f32⟩
  | 28 => ⟨S2x12x4096, .f32⟩
  | 29 => ⟨S_, .i32⟩
  | 30 => ⟨S2x12x4096, .i32⟩
  | 31 => ⟨S_, .f32⟩
  | 32 => ⟨S2x12x128, .f32⟩
  | 33 => ⟨S_, .i32⟩
  | 34 => ⟨S_, .i32⟩
  | 35 => ⟨S2x12x4096x32, .f32⟩
  | 36 => ⟨S2x12x4096, .f32⟩
  | 37 => ⟨S_, .i32⟩
  | 38 => ⟨S_, .i32⟩
  | 39 => ⟨S2x12x128x32, .f32⟩
  | 40 => ⟨S2x12x4096, .i32⟩
  | 41 => ⟨S2x12x128, .f32⟩
  | 42 => ⟨S_, .i32⟩
  | 43 => ⟨S_, .i1⟩
  | 44 => ⟨S_, .i32⟩
  | 45 => ⟨S_, .i32⟩
  | 46 => ⟨S_, .f32⟩
  | 47 => ⟨S2x12x128, .f32⟩
  | 48 => ⟨S2x12x4096x128, .f32⟩
  | 49 => ⟨S2x12x4096x1, .f32⟩
  | 50 => ⟨S2x12x1x128, .f32⟩
  | 51 => ⟨S2x12x4096x128, .f32⟩
  | 52 => ⟨S2x12x4096x128, .f32⟩
  | 53 => ⟨S2x12x4096x128, .f32⟩
  | 54 => ⟨S_, .f32⟩
  | 55 => ⟨S2x12x4096x128, .f32⟩
  | 56 => ⟨S2x12x4096x128, .f32⟩
  | 57 => ⟨S2x12x4096x128, .f32⟩
  | 58 => ⟨S2x12x4096x128, .i32⟩
  | 59 => ⟨S_, .f32⟩
  | 60 => ⟨S_, .i32⟩
  | 61 => ⟨S2x12x4096, .f32⟩
  | 62 => ⟨S2x12x4096, .i32⟩
  | 63 => ⟨S2x12x4096x1, .i32⟩
  | 64 => ⟨S1x1x1x128, .i32⟩
  | 65 => ⟨S2x12x4096x128, .i32⟩
  | 66 => ⟨S2x12x4096x128, .i32⟩
  | 67 => ⟨S2x12x4096x128, .i1⟩
  | 68 => ⟨S2x12x4096x128, .f32⟩
  | 69 => ⟨S_, .f32⟩
  | 70 => ⟨S2x12x128, .f32⟩
  | 71 => ⟨S2x12x128x32, .f32⟩
  | 72 => ⟨S_, .f32⟩
  | 73 => ⟨S2x12x128, .f32⟩
  | 74 => ⟨S2x12x128, .f32⟩
  | 75 => ⟨S2x12x128x1, .f32⟩
  | 76 => ⟨S2x12x128x32, .f32⟩
  | 77 => ⟨S2x12x128x32, .f32⟩
  | 78 => ⟨S_, .f32⟩
  | 79 => ⟨S2x12x128x32, .f32⟩
  | 80 => ⟨S2x12x128x32, .i1⟩
  | 81 => ⟨S2x12x128x32, .f32⟩
  | 82 => ⟨S_, .f32⟩
  | 83 => ⟨S2x12x128, .f32⟩
  | 84 => ⟨S2x12x128, .i1⟩
  | 85 => ⟨S2x12x128x1, .i1⟩
  | 86 => ⟨S2x12x128x32, .i1⟩
  | 87 => ⟨S2x12x128x32, .f32⟩
  | 88 => ⟨S_, .i32⟩
  | 89 => ⟨S_, .i32⟩
  | 90 => ⟨S2x12x4096x1, .i32⟩
  | 91 => ⟨S1x1x1x128, .i32⟩
  | 92 => ⟨S2x12x4096x128, .i32⟩
  | 93 => ⟨S2x12x4096x128, .i32⟩
  | 94 => ⟨S2x12x4096x128, .i1⟩
  | 95 => ⟨S2x12x4096x128, .f32⟩
  | 96 => ⟨S_, .f32⟩
  | 97 => ⟨S2x12x128, .f32⟩
  | 98 => ⟨S2x12x128, .f32⟩
  | 99 => ⟨S_, .f32⟩
  | 100 => ⟨S2x12x128, .f32⟩
  | 101 => ⟨S2x12x128, .f32⟩
  | 102 => ⟨S2x12x128x64, .f32⟩
  | 103 => ⟨S2x12x128x1, .f32⟩
  | 104 => ⟨S2x12x128x64, .f32⟩
  | 105 => ⟨S2x12x128x64, .f32⟩
  | 106 => ⟨S2x12x128x4096, .f32⟩
  | 107 => ⟨S2x1x1x4096, .f32⟩
  | 108 => ⟨S2x12x128x4096, .f32⟩
  | 109 => ⟨S2x12x128x4096, .f32⟩
  | 110 => ⟨S_, .f32⟩
  | 111 => ⟨S2x12x128x4096, .f32⟩
  | 112 => ⟨S2x12x128x4096, .f32⟩
  | 113 => ⟨S_, .f32⟩
  | 114 => ⟨S2x12x128, .f32⟩
  | 115 => ⟨S_, .f32⟩
  | 116 => ⟨S2x12x128, .f32⟩
  | 117 => ⟨S2x12x128, .f32⟩
  | 118 => ⟨S2x12x128x1, .f32⟩
  | 119 => ⟨S2x12x128x4096, .f32⟩
  | 120 => ⟨S2x12x128x4096, .f32⟩
  | 121 => ⟨S2x12x128x4096, .f32⟩
  | 122 => ⟨S_, .f32⟩
  | 123 => ⟨S2x12x128, .f32⟩
  | 124 => ⟨S2x12x128x1, .f32⟩
  | 125 => ⟨S2x12x128x4096, .f32⟩
  | 126 => ⟨S2x12x128x4096, .f32⟩
  | 127 => ⟨S2x12x128x64, .f32⟩
  | _ => ⟨S2x4096x12x64, .f32⟩

abbrev hbmTy0_1 (i : Nat) : BufTy := match i % 128 with
  | 0 => ⟨S2x12x4096x1, .i32⟩
  | 1 => ⟨S_, .i32⟩
  | 2 => ⟨S2x12x4096x1, .i32⟩
  | 3 => ⟨S2x12x4096x1, .i1⟩
  | 4 => ⟨S_, .i32⟩
  | 5 => ⟨S2x12x4096x1, .i32⟩
  | 6 => ⟨S2x12x4096x1, .i32⟩
  | 7 => ⟨S2x12x4096x1, .i32⟩
  | 8 => ⟨S1, .i32⟩
  | 9 => ⟨S_, .i32⟩
  | 10 => ⟨S2x12x4096x1, .i32⟩
  | 11 => ⟨S2x12x4096x1, .i1⟩
  | 12 => ⟨S1x1x1x1, .i32⟩
  | 13 => ⟨S2x12x4096x1, .i32⟩
  | 14 => ⟨S2x12x4096x1, .i1⟩
  | 15 => ⟨S2x12x4096x1, .i1⟩
  | 16 => ⟨S_, .i1⟩
  | 17 => ⟨S2x12x4096, .i1⟩
  | 18 => ⟨S2x12x4096x64, .f32⟩
  | 19 => ⟨S2x12x4096x64, .i1⟩
  | 20 => ⟨S_, .f32⟩
  | 21 => ⟨S2x12x4096x64, .f32⟩
  | 22 => ⟨S2x12x4096x64, .f32⟩
  | 23 => ⟨S2x4096x12x64, .f32⟩
  | _ => ⟨S2x4096x12x64, .f32⟩

abbrev hbmTy (i : Nat) : BufTy := match i / 128 with
  | 0 => hbmTy0_0 i
  | 1 => hbmTy0_1 i
  | _ => ⟨S2x4096x12x64, .f32⟩

abbrev bufTy : (tb : Table) → Fin (tcTables nBuf tb) → BufTy
  | .hbm, ⟨i, _⟩ => hbmTy i
  | _, _ => ⟨S2x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_c_5 : Ref sig .tc := ⟨.hbm, 33, rfl⟩
abbrev main_c_6 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev main_v21_5 : Ref sig .tc := ⟨.hbm, 40, rfl⟩
abbrev main_v21_6 : Ref sig .tc := ⟨.hbm, 41, rfl⟩
abbrev main_while0c_c_19 : Ref sig .tc := ⟨.hbm, 42, rfl⟩
abbrev main_while0c_v52 : Ref sig .tc := ⟨.hbm, 43, rfl⟩
abbrev main_while0b_c_19 : Ref sig .tc := ⟨.hbm, 44, rfl⟩
abbrev main_while0b_v52 : Ref sig .tc := ⟨.hbm, 45, rfl⟩
abbrev main_while0b_cst_20 : Ref sig .tc := ⟨.hbm, 46, rfl⟩
abbrev main_while0b_v53 : Ref sig .tc := ⟨.hbm, 47, rfl⟩
abbrev main_while0b_v54 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_cst_21 : Ref sig .tc := ⟨.hbm, 54, rfl⟩
abbrev main_while0b_v60 : Ref sig .tc := ⟨.hbm, 55, rfl⟩
abbrev main_while0b_v61 : Ref sig .tc := ⟨.hbm, 56, rfl⟩
abbrev main_while0b_v62 : Ref sig .tc := ⟨.hbm, 57, rfl⟩
abbrev main_while0b_call0_v0 : Ref sig .tc := ⟨.hbm, 58, rfl⟩
abbrev main_while0b_call0_cst : Ref sig .tc := ⟨.hbm, 59, rfl⟩
abbrev main_while0b_call0_c : Ref sig .tc := ⟨.hbm, 60, rfl⟩
abbrev main_while0b_call0_v1_0 : Ref sig .tc := ⟨.hbm, 61, rfl⟩
abbrev main_while0b_v63 : Ref sig .tc := ⟨.hbm, 62, rfl⟩
abbrev main_while0b_call1_v0 : Ref sig .tc := ⟨.hbm, 63, rfl⟩
abbrev main_while0b_call1_v1 : Ref sig .tc := ⟨.hbm, 64, rfl⟩
abbrev main_while0b_call1_v2 : Ref sig .tc := ⟨.hbm, 65, rfl⟩
abbrev main_while0b_call1_v3 : Ref sig .tc := ⟨.hbm, 66, rfl⟩
abbrev main_while0b_call1_v4 : Ref sig .tc := ⟨.hbm, 67, rfl⟩
abbrev main_while0b_v64 : Ref sig .tc := ⟨.hbm, 68, rfl⟩
abbrev main_while0b_cst_22 : Ref sig .tc := ⟨.hbm, 69, rfl⟩
abbrev main_while0b_v65 : Ref sig .tc := ⟨.hbm, 70, rfl⟩
abbrev main_while0b_v66 : Ref sig .tc := ⟨.hbm, 71, rfl⟩
abbrev main_while0b_cst_23 : Ref sig .tc := ⟨.hbm, 72, rfl⟩
abbrev main_while0b_v67 : Ref sig .tc := ⟨.hbm, 73, rfl⟩
abbrev main_while0b_v68 : Ref sig .tc := ⟨.hbm, 74, rfl⟩
abbrev main_while0b_v69 : Ref sig .tc := ⟨.hbm, 75, rfl⟩
abbrev main_while0b_v70 : Ref sig .tc := ⟨.hbm, 76, rfl⟩
abbrev main_while0b_v71 : Ref sig .tc := ⟨.hbm, 77, rfl⟩
abbrev main_while0b_cst_24 : Ref sig .tc := ⟨.hbm, 78, rfl⟩
abbrev main_while0b_v72 : Ref sig .tc := ⟨.hbm, 79, rfl⟩
abbrev main_while0b_v73 : Ref sig .tc := ⟨.hbm, 80, rfl⟩
abbrev main_while0b_v74 : Ref sig .tc := ⟨.hbm, 81, rfl⟩
abbrev main_while0b_cst_25 : Ref sig .tc := ⟨.hbm, 82, rfl⟩
abbrev main_while0b_v75 : Ref sig .tc := ⟨.hbm, 83, rfl⟩
abbrev main_while0b_v76 : Ref sig .tc := ⟨.hbm, 84, rfl⟩
abbrev main_while0b_v77 : Ref sig .tc := ⟨.hbm, 85, rfl⟩
abbrev main_while0b_call2_v0 : Ref sig .tc := ⟨.hbm, 86, rfl⟩
abbrev main_while0b_v78 : Ref sig .tc := ⟨.hbm, 87, rfl⟩
abbrev main_while0b_c_26 : Ref sig .tc := ⟨.hbm, 88, rfl⟩
abbrev main_while0b_v79 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v22 : Ref sig .tc := ⟨.hbm, 95, rfl⟩
abbrev main_cst_7 : Ref sig .tc := ⟨.hbm, 96, rfl⟩
abbrev main_v23 : Ref sig .tc := ⟨.hbm, 97, rfl⟩
abbrev main_v24 : Ref sig .tc := ⟨.hbm, 98, rfl⟩
abbrev main_cst_8 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_cst_9 : Ref sig .tc := ⟨.hbm, 110, rfl⟩
abbrev main_v35 : Ref sig .tc := ⟨.hbm, 111, rfl⟩
abbrev main_v36 : Ref sig .tc := ⟨.hbm, 112, rfl⟩
abbrev main_cst_10 : Ref sig .tc := ⟨.hbm, 113, rfl⟩
abbrev main_v37 : Ref sig .tc := ⟨.hbm, 114, rfl⟩
abbrev main_cst_11 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_cst_12 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_c_1 : Ref sig .tc := ⟨.hbm, 136, rfl⟩
abbrev main_call4_c_2 : Ref sig .tc := ⟨.hbm, 137, rfl⟩
abbrev main_call4_v5 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_c_3 : Ref sig .tc := ⟨.hbm, 144, rfl⟩
abbrev main_call4_v11 : Ref sig .tc := ⟨.hbm, 145, rfl⟩
abbrev main_call4_v12 : Ref sig .tc := ⟨.hbm, 146, rfl⟩
abbrev main_call4_v13 : Ref sig .tc := ⟨.hbm, 147, rfl⟩
abbrev main_call4_cst : Ref sig .tc := ⟨.hbm, 148, rfl⟩
abbrev main_call4_v14 : Ref sig .tc := ⟨.hbm, 149, rfl⟩
abbrev main_v50 : Ref sig .tc := ⟨.hbm, 150, rfl⟩
abbrev main_v51 : Ref sig .tc := ⟨.hbm, 151, rfl⟩

abbrev nD : Nat := 1
abbrev τ : Topo := Topo.v7x

variable {F : FTy → Type} [FloatOps F]

abbrev main_while0_count : Scf.Loop 32 := ⟨0#32, 10#32, 1#32⟩
-- ==== Proof.Spec.lean ====
/-  The clustering of one head in plain mathematics: bits as booleans, Hamming scores as integers, the nearest centroid as
    the first of the least. Kernel and reference are each shown to compute these. -/
module

public import Idealize.ShloMosaic.Lib.Pointwise

@[expose] public section

noncomputable section

namespace Cert.Spec

open Idealize.ShloMosaic

/-- A bit as a number. -/
def bit (b : Bool) : EReal := if b then 1 else 0

/-- The number of bits set. -/
def pop (x : Fin 32 → Bool) : ℤ := ∑ b, if x b then 1 else 0

/-- The number of bits set in both. -/
def overlap (x y : Fin 32 → Bool) : ℤ := ∑ b, if x b && y b then 1 else 0

/-- The Hamming distance of a query from a centroid, less the query's own number of bits. -/
def score (β : Fin 4096 → Fin 32 → Bool) (κ : Fin 128 → Fin 32 → Bool) (l : Fin 4096) (c : Fin 128) : ℤ :=
  pop (κ c) - 2 * overlap (β l) (κ c)

/-- `c` is the first among the least. -/
def Nearest (s : Fin 128 → ℤ) (c : Fin 128) : Prop := ∀ c', s c < s c' ∨ s c = s c' ∧ c ≤ c'

theorem exists_nearest (s : Fin 128 → ℤ) : ∃ c, Nearest s c := by
  obtain ⟨c, -, hc⟩ := Finset.exists_min_image Finset.univ (fun c : Fin 128 => s c * 128 + (c : ℤ)) ⟨0, Finset.mem_univ _⟩
  refine ⟨c, fun c' => ?_⟩
  have h := hc c' (Finset.mem_univ _)
  have h₁ := c.isLt
  have h₂ := c'.isLt
  rw [Fin.le_def]
  omega

/-- The first among the least. -/
def near (s : Fin 128 → ℤ) : Fin 128 := (exists_nearest s).choose

theorem near_spec (s : Fin 128 → ℤ) : Nearest s (near s) := (exists_nearest s).choose_spec

theorem near_unique {s : Fin 128 → ℤ} {c : Fin 128} (h : Nearest s c) : near s = c := by
  have h₁ := near_spec s c
  have h₂ := h (near s)
  rw [Fin.le_def] at h₁ h₂
  apply Fin.ext
  omega

/-- One number per centroid orders the pair (score, index): `key = 128 · score + index` is least exactly at the nearest. -/
theorem key_le_iff (s : Fin 128 → ℤ) (c : Fin 128) :
    (∀ c' : Fin 128, s c * 128 + (c : ℤ) ≤ s c' * 128 + (c' : ℤ)) ↔ near s = c := by
  constructor
  · intro h
    refine near_unique fun c' => ?_
    have h₀ := h c'
    have h₁ := c.isLt
    have h₂ := c'.isLt
    rw [Fin.le_def]
    omega
  · rintro rfl c'
    have h := near_spec s c'
    have h₁ := (near s).isLt
    have h₂ := c'.isLt
    rw [Fin.le_def] at h
    omega

/-- The assignment of every query to its nearest centroid. -/
def assign (β : Fin 4096 → Fin 32 → Bool) (κ : Fin 128 → Fin 32 → Bool) (l : Fin 4096) : Fin 128 := near (score β κ l)

/-- Whether a query belongs to a cluster, as a number. -/
def member (a : Fin 4096 → Fin 128) (c : Fin 128) (l : Fin 4096) : EReal := if a l = c then 1 else 0

/-- The size of a cluster. -/
def count (a : Fin 4096 → Fin 128) (c : Fin 128) : EReal := ∑ l, member a c l

/-- The majority bit of a cluster: the mean of its members' bits lies above a half. -/
def majority (β : Fin 4096 → Fin 32 → Bool) (a : Fin 4096 → Fin 128) (c : Fin 128) (b : Fin 32) : Bool :=
  decide (Ideal.ofBits .f32 0x3F000000#32 < Ideal.div (∑ l, member a c l * bit (β l b)) (max (count a c) 1))

/-- One trip: an occupied cluster's centroid becomes its majority bits. -/
def recentre (β : Fin 4096 → Fin 32 → Bool) (κ : Fin 128 → Fin 32 → Bool) (c : Fin 128) (b : Fin 32) : Bool :=
  if 0 < count (assign β κ) c then majority β (assign β κ) c b else κ c b

/-- The first codebook: the bits of every 32nd query. -/
def seeds (β : Fin 4096 → Fin 32 → Bool) (c : Fin 128) (b : Fin 32) : Bool := β ⟨32 * c, by omega⟩ b

/-- The codebook after `n` trips. -/
def codebook (β : Fin 4096 → Fin 32 → Bool) (n : ℕ) : Fin 128 → Fin 32 → Bool := (recentre β)^[n] (seeds β)

theorem codebook_succ (β : Fin 4096 → Fin 32 → Bool) (n : ℕ) : codebook β (n + 1) = recentre β (codebook β n) := by
  rw [codebook, codebook, Function.iterate_succ_apply']

/-- The hash bits of the queries of one head. -/
def hash (q : Fin 4096 → Fin 64 → EReal) (w : Fin 32 → Fin 65 → EReal) (l : Fin 4096) (b : Fin 32) : Bool :=
  decide (0 < (∑ e : Fin 64, q l e * w b ⟨e, by omega⟩) + w b 64)

/-! ## The integers as extended reals -/

theorem bit_coe (b : Bool) : bit b = (((if b then 1 else 0 : ℤ) : ℝ) : EReal) := by
  cases b <;> simp [bit]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sum_bit (x : Fin 32 → Bool) : ∑ b, bit (x b) = ((pop x : ℝ) : EReal) := by
  rw [pop, Int.cast_sum, coe_sum]
  exact Finset.sum_congr rfl fun b _ => bit_coe _

theorem sum_bit_mul (x y : Fin 32 → Bool) : ∑ b, bit (x b) * bit (y b) = ((overlap x y : ℝ) : EReal) := by
  rw [overlap, Int.cast_sum, coe_sum]
  refine Finset.sum_congr rfl fun b _ => ?_
  rw [← bit_coe]
  cases x b <;> cases y b <;> simp [bit]

theorem overlap_comm (x y : Fin 32 → Bool) : overlap x y = overlap y x := by
  simp only [overlap, Bool.and_comm]

/-! ## Literals -/

theorem lit_two : Ideal.ofBits .f32 0x40000000#32 = ((2 : ℝ) : EReal) := by
  simp [Ideal.ofBits, Ideal.ieee, -EReal.coe_mul, -EReal.coe_neg] <;> norm_num

theorem lit_neg256 : Ideal.ofBits .f32 0xC3800000#32 = ((-256 : ℝ) : EReal) := by
  simp [Ideal.ofBits, Ideal.ieee, -EReal.coe_mul, -EReal.coe_neg] <;> norm_num

theorem lit_128 : Ideal.ofBits .f32 0x43000000#32 = ((128 : ℝ) : EReal) := by
  simp [Ideal.ofBits, Ideal.ieee, -EReal.coe_mul, -EReal.coe_neg] <;> norm_num

theorem lit_eighth : Ideal.ofBits .f32 0x3E000000#32 = ((1 / 8 : ℝ) : EReal) := by
  simp [Ideal.ofBits, Ideal.ieee, -EReal.coe_mul, -EReal.coe_neg] <;> norm_num

theorem lit_top : Ideal.ofBits .f32 0x7F800000#32 = ⊤ := by
  simp [Ideal.ofBits, Ideal.ieee, -EReal.coe_mul, -EReal.coe_neg] <;> norm_num

theorem lit_bot : Ideal.ofBits .f32 0xFF800000#32 = ⊥ := by
  simp [Ideal.ofBits, Ideal.ieee, -EReal.coe_mul, -EReal.coe_neg] <;> norm_num

end Cert.Spec

end
-- ==== Proof.Softmax.lean ====
/-  The two ways to attend: the kernel exponentiates the scores as they are and divides the mixed values by the sum once; the
    reference subtracts the largest score first and divides every weight. They agree when every score is below +∞ and one of
    them is above −∞; the values are arbitrary extended reals. -/
module

public import proofs.«01_k».proof.Proof.Spec

@[expose] public section

noncomputable section

namespace Cert.Spec

open Idealize.ShloMosaic

/-- The mean query of a cluster, at a coordinate: the sum of its members times one over its size. -/
def meanQuery (a : Fin 4096 → Fin 128) (q : Fin 4096 → Fin 64 → EReal) (c : Fin 128) (e : Fin 64) : EReal :=
  (∑ l, member a c l * q l e) * Ideal.div 1 (max (count a c) 1)

/-- The scaled score of a cluster's mean query against a key, with the additive mask. -/
def logit (a : Fin 4096 → Fin 128) (q k : Fin 4096 → Fin 64 → EReal) (kadd : Fin 4096 → EReal) (c : Fin 128) (j : Fin 4096) : EReal :=
  Ideal.ofBits .f32 0x3E000000#32 * ((∑ e, meanQuery a q c e * k j e) + kadd j)

/-- Scores exponentiated as they are; one division at the end. -/
def mixOnce (s v : Fin 4096 → EReal) : EReal := Ideal.div (∑ j, Ideal.exp (s j) * v j) (∑ j, Ideal.exp (s j))

/-- The cluster of every query of a head after ten trips: the assignment the tenth trip makes. -/
def cluster (q : Fin 4096 → Fin 64 → EReal) (w : Fin 32 → Fin 65 → EReal) : Fin 4096 → Fin 128 :=
  assign (hash q w) (codebook (hash q w) 9)

/-- One head's output at a query and a coordinate: the kernel's attention of the query's cluster. -/
def headOut (q k v : Fin 4096 → Fin 64 → EReal) (kadd : Fin 4096 → EReal) (w : Fin 32 → Fin 65 → EReal) (l : Fin 4096) (e : Fin 64) :
    EReal :=
  mixOnce (logit (cluster q w) q k kadd (cluster q w l)) (fun j => v j e)

/-- Scores less a given number `M`; every weight divided. -/
def mixEach (M : EReal) (s v : Fin 4096 → EReal) : EReal :=
  ∑ j, Ideal.div (Ideal.exp (s j - M)) (∑ i, Ideal.exp (s i - M)) * v j

/-- A finite factor that is not negative distributes over a sum of arbitrary extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih, mul_comm, mul_comm (f i), mul_comm (∑ i ∈ s, f i),
      EReal.left_distrib_of_nonneg_of_ne_top (by exact_mod_cast hr) (EReal.coe_ne_top r)]

/-- The real exponential of a score below +∞, zero at −∞. -/
def expR (x : EReal) : ℝ := if x = ⊥ then 0 else Real.exp x.toReal

theorem expR_nonneg (x : EReal) : 0 ≤ expR x := by
  unfold expR; split <;> positivity

theorem exp_eq {x : EReal} (h : x ≠ ⊤) : Ideal.exp x = (expR x : EReal) := by
  induction x using EReal.rec with
  | bot => simp [expR]
  | coe r => simp [expR]
  | top => exact absurd rfl h

theorem expR_pos {x : EReal} (h : x ≠ ⊥) : 0 < expR x := by
  unfold expR; rw [if_neg h]; positivity

/-- Subtracting a finite number scales the exponential. -/
theorem exp_sub {x : EReal} (h : x ≠ ⊤) (M : ℝ) : Ideal.exp (x - (M : EReal)) = ((expR x * Real.exp (-M) : ℝ) : EReal) := by
  induction x using EReal.rec with
  | bot => simp [expR]
  | coe r =>
    rw [← EReal.coe_sub, Ideal.exp_coe]
    simp only [expR, EReal.coe_ne_bot, if_false, EReal.toReal_coe]
    rw [← Real.exp_add, sub_eq_add_neg]
  | top => exact absurd rfl h

/-- The two ways agree. -/
theorem mixEach_eq (M : ℝ) (s v : Fin 4096 → EReal) (htop : ∀ j, s j ≠ ⊤) (hbot : ∃ j, s j ≠ ⊥) :
    mixEach (M : EReal) s v = mixOnce s v := by
  have hz : 0 < ∑ j, expR (s j) := by
    obtain ⟨j, hj⟩ := hbot
    exact Finset.sum_pos' (fun i _ => expR_nonneg _) ⟨j, Finset.mem_univ _, expR_pos hj⟩
  have h₁ : ∑ j, Ideal.exp (s j) = ((∑ j, expR (s j) : ℝ) : EReal) := by
    rw [coe_sum]; exact Finset.sum_congr rfl fun j _ => exp_eq (htop j)
  have h₂ : ∑ j, Ideal.exp (s j - (M : EReal)) = (((∑ j, expR (s j)) * Real.exp (-M) : ℝ) : EReal) := by
    rw [Finset.sum_mul, coe_sum]; exact Finset.sum_congr rfl fun j _ => exp_sub (htop j) M
  have hw : (∑ j, expR (s j)) * Real.exp (-M) ≠ 0 := (mul_pos hz (Real.exp_pos _)).ne'
  unfold mixEach mixOnce
  rw [h₁, h₂, Ideal.div_coe hz.ne', sum_mul_coe _ _ (by positivity)]
  refine Finset.sum_congr rfl fun j _ => ?_
  rw [exp_sub (htop j), Ideal.div_coe hw, exp_eq (htop j), ← EReal.coe_mul, mul_right_comm _ (v j), ← EReal.coe_mul]
  congr 2
  have := (Real.exp_pos (-M)).ne'
  field_simp

/-- A fold of `max` from −∞ over scores below +∞, one of them above −∞, is a finite number. -/
theorem top_real (s : Fin 4096 → EReal) (htop : ∀ j, s j ≠ ⊤) (hbot : ∃ j, s j ≠ ⊥) :
    ∃ M : ℝ, max ⊥ (Finset.univ.fold max ⊥ s) = (M : EReal) := by
  have e : Finset.univ.fold max ⊥ s = Finset.univ.sup s := rfl
  rw [e, max_eq_right bot_le]
  obtain ⟨j, hj⟩ := hbot
  obtain ⟨i, -, hi⟩ := Finset.exists_mem_eq_sup Finset.univ ⟨j, Finset.mem_univ _⟩ s
  have hle : s j ≤ s i := hi ▸ Finset.le_sup (Finset.mem_univ j)
  refine ⟨(s i).toReal, ?_⟩
  rw [hi, EReal.coe_toReal (htop i) fun h => hj (le_bot_iff.1 (h ▸ hle))]

end Cert.Spec

end
-- ==== Proof.Scores.lean ====
/-  What the precondition `finite_scores` says of the arguments, and the scores it keeps away from +∞. -/
module

public import proofs.«01_k».proof.Proof.Softmax
public import proofs.«01_k».proof.Pre_finite_scores
public import Idealize.ShloMosaic.Lib.ReduceAll
public import Idealize.ShloMosaic.Lib.Affine
public import Idealize.ShloMosaic.Lib.Pointwise

@[expose] public section

noncomputable section

namespace Cert.Scores

open Idealize.ShloMosaic Cert.Spec Cert.Pre_finite_scores

theorem facts : Cert.Pre_finite_scores.Facts where
  reducesTo_S2x4096_S2_d1 := by decide
  h_S_ := by decide
  bcast_S_S2x4096x12x64 := by decide
  reducesTo_S2x4096x12x64_S_d0_1_2_3 := by decide
  bcast_S_S2x4096 := by decide
  reducesTo_S2x4096_S_d0_1 := by decide
  bcast_S_S2 := by decide
  reducesTo_S2_S_d0 := by decide

/-! ## The precondition's tests at an index -/

theorem below_top {s : Shape} (x : FVec Ideal s .f32) (h : S_.BroadcastsInDim s (![] : Fin 0 → Fin s.rank)) (i : s.Idx)
    (e : cmpf .olt x (broadcastInDim s ![] h (constant S_ .f32 0x7F800000#32 : FVec Ideal S_ .f32)) i = 1#1) : (x i : EReal) ≠ ⊤ := by
  have e' : Ideal.cmp .olt (x i : EReal) (Ideal.ofBits .f32 0x7F800000#32) = 1#1 := e
  rw [lit_top] at e'
  intro hx
  rw [hx] at e'
  simp [Ideal.cmp] at e'

theorem above_bot {s : Shape} (x : FVec Ideal s .f32) (h : S_.BroadcastsInDim s (![] : Fin 0 → Fin s.rank)) (i : s.Idx)
    (e : cmpf .ogt x (broadcastInDim s ![] h (constant S_ .f32 0xFF800000#32 : FVec Ideal S_ .f32)) i = 1#1) : (x i : EReal) ≠ ⊥ := by
  have e' : Ideal.cmp .ogt (x i : EReal) (Ideal.ofBits .f32 0xFF800000#32) = 1#1 := e
  rw [lit_bot] at e'
  intro hx
  rw [hx] at e'
  simp [Ideal.cmp] at e'

theorem abs_at {s : Shape} (x : FVec Ideal s .f32) (i : s.Idx) : Host.absf x i = max (x i : EReal) (-x i) := rfl

theorem finite_of_abs {s : Shape} (x : FVec Ideal s .f32) (i : s.Idx) (e : (Host.absf x i : EReal) ≠ ⊤) :
    (x i : EReal) ≠ ⊤ ∧ (x i : EReal) ≠ ⊥ := by
  rw [abs_at] at e
  constructor <;> intro hx <;> rw [hx] at e <;> simp at e

/-- A maximum over the second of two axes is a fold over that axis. -/
theorem fold_row {n0 n1 : ℕ} (hR : (⟨2, ![n0, n1]⟩ : Shape).ReducesTo [1] ⟨1, ![n0]⟩) (x : FVec Ideal ⟨2, ![n0, n1]⟩ .f32)
    {u : Shape} (v : FVec Ideal u .f32) (hu : 0 < u.numel) (a : Fin n0) :
    Host.reduce FloatOps.maximumf x v hR hu (ix1 a) = Finset.univ.fold max (v (Shape.Idx.first hu)) (fun k : Fin n1 => x (ix2 a k)) := by
  simp only [pointwise]

theorem bot_first (hu : 0 < S_.numel) : (constant S_ .f32 0xFF800000#32 : FVec Ideal S_ .f32) (Shape.Idx.first hu) = (⊥ : EReal) := lit_bot

/-- A row whose largest entry lies above −∞ has an entry above −∞. -/
theorem row_above {n0 n1 : ℕ} (hR : (⟨2, ![n0, n1]⟩ : Shape).ReducesTo [1] ⟨1, ![n0]⟩) (x : FVec Ideal ⟨2, ![n0, n1]⟩ .f32)
    (hu : 0 < S_.numel) (a : Fin n0)
    (e : Host.reduce FloatOps.maximumf x (constant S_ .f32 0xFF800000#32 : FVec Ideal S_ .f32) hR hu (ix1 a) ≠ (⊥ : EReal)) :
    ∃ k : Fin n1, (x (ix2 a k) : EReal) ≠ ⊥ := by
  rw [fold_row, bot_first] at e
  by_contra hc
  push Not at hc
  refine e ?_
  rw [show (fun k : Fin n1 => x (ix2 a k)) = fun _ => (⊥ : EReal) from funext hc]
  exact Finset.sup_bot Finset.univ

instance : Subsingleton S_.Idx := ⟨fun _ _ => funext fun a => a.elim0⟩

theorem andi_at {s : Shape} {w : ℕ} (x y : IVec s w) (i : s.Idx) : andi x y i = IntOp.andi (x i) (y i) := rfl

/-- The precondition: queries and keys are finite, no mask is +∞, and no batch is masked out whole. -/
theorem of_pre [Facts] (q k v : FVec Ideal S2x4096x12x64 .f32) (kadd : FVec Ideal S2x4096 .f32) (planes : FVec Ideal S32x65 .f32)
    (h : fn (F := Ideal) q k v kadd planes = fun _ => 1#1) :
    (∀ i, (q i : EReal) ≠ ⊤ ∧ (q i : EReal) ≠ ⊥) ∧ (∀ i, (k i : EReal) ≠ ⊤ ∧ (k i : EReal) ≠ ⊥) ∧ (∀ i, (kadd i : EReal) ≠ ⊤)
      ∧ ∀ n : Fin 2, ∃ j : Fin 4096, (kadd (ix2 n j) : EReal) ≠ ⊥ := by
  have e := congrFun h (Shape.Idx.first Facts.h_S_)
  unfold fn fn_part1 at e
  rw [andi_at, IntOp.andi_eq_one, andi_at, IntOp.andi_eq_one, andi_at, IntOp.andi_eq_one] at e
  obtain ⟨⟨⟨hq, hk⟩, hm⟩, hr⟩ := e
  exact ⟨fun i => finite_of_abs q i (below_top _ _ i (Host.reduce_andi_all _ _ _ _ _ hq i)),
    fun i => finite_of_abs k i (below_top _ _ i (Host.reduce_andi_all _ _ _ _ _ hk i)),
    fun i => below_top _ _ i (Host.reduce_andi_all _ _ _ _ _ hm i),
    fun n => row_above _ kadd _ n (above_bot _ _ (ix1 n) (Host.reduce_andi_all _ _ _ _ _ hr (ix1 n)))⟩

/-! ## The scores -/

theorem member_coe (a : Fin 4096 → Fin 128) (c : Fin 128) (l : Fin 4096) : member a c l = ((if a l = c then 1 else 0 : ℝ) : EReal) := by
  unfold member; split <;> simp

theorem count_coe (a : Fin 4096 → Fin 128) (c : Fin 128) : count a c = ((∑ l, if a l = c then 1 else 0 : ℝ) : EReal) := by
  rw [Spec.count, coe_sum]
  exact Finset.sum_congr rfl fun l _ => member_coe a c l

/-- The mean of finite queries is finite. -/
theorem meanQuery_real (a : Fin 4096 → Fin 128) (q : Fin 4096 → Fin 64 → ℝ) (c : Fin 128) (e : Fin 64) :
    ∃ r : ℝ, meanQuery a (fun l e => (q l e : EReal)) c e = (r : EReal) := by
  have hs : ∑ l, member a c l * (q l e : EReal) = ((∑ l, (if a l = c then 1 else 0) * q l e : ℝ) : EReal) := by
    rw [coe_sum]
    exact Finset.sum_congr rfl fun l _ => by rw [member_coe, EReal.coe_mul]
  have hm : max (count a c) 1 = ((max (∑ l, if a l = c then 1 else 0) 1 : ℝ) : EReal) := by
    rw [count_coe, EReal.coe_strictMono.monotone.map_max, EReal.coe_one]
  have hp : (max (∑ l, if a l = c then 1 else 0) 1 : ℝ) ≠ 0 := (lt_of_lt_of_le one_pos (le_max_right _ _)).ne'
  rw [meanQuery, hs, hm, Ideal.div_coe hp, one_mul, ← EReal.coe_mul]
  exact ⟨_, rfl⟩

/-- A score of finite queries and keys is an eighth of a finite number and the mask. -/
theorem logit_eq (a : Fin 4096 → Fin 128) (q k : Fin 4096 → Fin 64 → ℝ) (kadd : Fin 4096 → EReal) (c : Fin 128) (j : Fin 4096) :
    ∃ r : ℝ, logit a (fun l e => (q l e : EReal)) (fun l e => (k l e : EReal)) kadd c j = ((1 / 8 : ℝ) : EReal) * ((r : EReal) + kadd j) := by
  choose f hf using fun e => meanQuery_real a q c e
  refine ⟨∑ e, f e * k j e, ?_⟩
  rw [logit, lit_eighth, coe_sum]
  congr 2
  exact Finset.sum_congr rfl fun e _ => by rw [hf, EReal.coe_mul]

theorem logit_ne_top (a : Fin 4096 → Fin 128) (q k : Fin 4096 → Fin 64 → ℝ) (kadd : Fin 4096 → EReal) (c : Fin 128) (j : Fin 4096)
    (h : kadd j ≠ ⊤) : logit a (fun l e => (q l e : EReal)) (fun l e => (k l e : EReal)) kadd c j ≠ ⊤ := by
  obtain ⟨r, e⟩ := logit_eq a q k kadd c j
  rw [e]
  generalize kadd j = x at h
  induction x using EReal.rec with
  | bot => rw [EReal.add_bot, EReal.coe_mul_bot_of_pos (by norm_num)]; exact bot_ne_top
  | coe x => rw [← EReal.coe_add, ← EReal.coe_mul]; exact EReal.coe_ne_top _
  | top => exact absurd rfl h

theorem logit_ne_bot (a : Fin 4096 → Fin 128) (q k : Fin 4096 → Fin 64 → ℝ) (kadd : Fin 4096 → EReal) (c : Fin 128) (j : Fin 4096)
    (h : kadd j ≠ ⊥) : logit a (fun l e => (q l e : EReal)) (fun l e => (k l e : EReal)) kadd c j ≠ ⊥ := by
  obtain ⟨r, e⟩ := logit_eq a q k kadd c j
  rw [e]
  generalize kadd j = x at h
  induction x using EReal.rec with
  | bot => exact absurd rfl h
  | coe x => rw [← EReal.coe_add, ← EReal.coe_mul]; exact EReal.coe_ne_bot _
  | top => rw [EReal.coe_add_top, EReal.coe_mul_top_of_pos (by norm_num)]; exact top_ne_bot

/-- Where no score is +∞ and one is above −∞, the two ways of taking the softmax agree. -/
theorem mix_eq (a : Fin 4096 → Fin 128) (q k : Fin 4096 → Fin 64 → EReal) (kadd v : Fin 4096 → EReal) (c : Fin 128)
    (hq : ∀ l e, q l e ≠ ⊤ ∧ q l e ≠ ⊥) (hk : ∀ l e, k l e ≠ ⊤ ∧ k l e ≠ ⊥) (ht : ∀ j, kadd j ≠ ⊤) (hb : ∃ j, kadd j ≠ ⊥) :
    mixEach (max ⊥ (Finset.univ.fold max ⊥ (logit a q k kadd c))) (logit a q k kadd c) v = mixOnce (logit a q k kadd c) v := by
  have eq : q = fun l e => ((q l e).toReal : EReal) := funext fun l => funext fun e => (EReal.coe_toReal (hq l e).1 (hq l e).2).symm
  have ek : k = fun l e => ((k l e).toReal : EReal) := funext fun l => funext fun e => (EReal.coe_toReal (hk l e).1 (hk l e).2).symm
  have h₁ : ∀ j, logit a q k kadd c j ≠ ⊤ := fun j => by rw [eq, ek]; exact logit_ne_top a _ _ kadd c j (ht j)
  have h₂ : ∃ j, logit a q k kadd c j ≠ ⊥ := hb.imp fun j hj => by rw [eq, ek]; exact logit_ne_bot a _ _ kadd c j hj
  obtain ⟨M, hM⟩ := top_real _ h₁ h₂
  rw [hM]
  exact mixEach_eq M _ v h₁ h₂

end Cert.Scores

end
-- ==== Proof.RefFn.lean ====
/-  What the reference computes, as functions of its argument arrays: the hash bits, the seeds of the codebook, one trip of
    the clustering, and the attention of the mean queries. Each is the composition of the reference's own operations. -/
module

public import proofs.«01_k».proof.Proof.Gen.ReferenceIdeal

@[expose] public section

set_option maxRecDepth 16384

noncomputable section

namespace Cert.RefFn

open Cert.ReferenceIdeal Cert.ReferenceIdeal.Gen
open Idealize.ShloMosaic

variable {F : FTy → Type} [FloatOps F]

/-- An argument `[n, l, h, e]` read as `[n, h, l, e]`. -/
def heads (x : FVec F S2x4096x12x64 .f32) : FVec F S2x12x4096x64 .f32 :=
  transpose S2x12x4096x64 [0, 2, 1, 3] x transposes_S2x4096x12x64_S2x12x4096x64_0_2_1_3

/-- The hash bits: whether a query lies on the positive side of each plane. -/
def hashBits (q : FVec F S2x12x4096x64 .f32) (planes : FVec F S32x65 .f32) : FVec F S2x12x4096x32 .f32 :=
  uitofp .f32 (cmpf .ogt
    (addf
      (Host.dotGeneral dot_S2x12x4096x64_S32x64_S2x12x4096x32_3_1_012_0_n_n none q
        (extractStridedSlice S32x64 ![0, 0] planes slices_S32x65_S32x64_0_0))
      (broadcastInDim S2x12x4096x32 ![0, 1, 2, 3] bcast_S1x1x1x32_S2x12x4096x32_0_1_2_3
        (broadcastInDim S1x1x1x32 ![3] bcast_S32_S1x1x1x32_3
          (shapeCast S32 (extractStridedSlice S32x1 ![0, 64] planes slices_S32x65_S32x1_0_64) shapeCasts_S32x1_S32))))
    (broadcastInDim S2x12x4096x32 ![] bcast_S_S2x12x4096x32 (constant S_ .f32 0x00000000#32)))

/-- The seeds: the hash bits of every 32nd query. -/
def seeds (hb : FVec F S2x12x4096x32 .f32) : FVec F S2x12x128x32 .f32 :=
  Host.gather gather_S2x12x4096x32_S128x1_S2x12x128x32_013_2_n_n_2_1_212132 hb
    (broadcastInDim S128x1 ![0] bcast_S128_S128x1_0
      (select (constantI S128 1 0#1)
        (addi (fun i => lit0 (S128.rowMajor i)) (broadcastInDim S128 ![] bcast_S_S128 (constantI S_ 32 4096#32)))
        (fun i => lit0 (S128.rowMajor i))))

/-- The number of bits set in every query's hash. -/
def bitsSet (hb : FVec F S2x12x4096x32 .f32) : FVec F S2x12x4096 .f32 :=
  Host.reduceAdd hb (constant S_ .f32 0x00000000#32) reducesTo_S2x12x4096x32_S2x12x4096_d3 h_S_

/-- The Hamming distances of the queries' hashes from the centroids. -/
def distances (hb : FVec F S2x12x4096x32 .f32) (pop : FVec F S2x12x4096 .f32) (cb : FVec F S2x12x128x32 .f32) :
    FVec F S2x12x4096x128 .f32 :=
  subf
    (addf
      (broadcastInDim S2x12x4096x128 ![0, 1, 2, 3] bcast_S2x12x4096x1_S2x12x4096x128_0_1_2_3
        (broadcastInDim S2x12x4096x1 ![0, 1, 2] bcast_S2x12x4096_S2x12x4096x1_0_1_2 pop))
      (broadcastInDim S2x12x4096x128 ![0, 1, 2, 3] bcast_S2x12x1x128_S2x12x4096x128_0_1_2_3
        (broadcastInDim S2x12x1x128 ![0, 1, 3] bcast_S2x12x128_S2x12x1x128_0_1_3
          (Host.reduceAdd cb (constant S_ .f32 0x00000000#32) reducesTo_S2x12x128x32_S2x12x128_d3 h_S_))))
    (mulf (broadcastInDim S2x12x4096x128 ![] bcast_S_S2x12x4096x128 (constant S_ .f32 0x40000000#32))
      (Host.dotGeneral dot_S2x12x4096x32_S2x12x128x32_S2x12x4096x128_3_3_2_2_01_01 none hb cb))

/-- The nearest centroid of every query, the first of equals. -/
def nearest (d : FVec F S2x12x4096x128 .f32) : IVec S2x12x4096 32 := fun j =>
  (Host.argReduce reducer_argmin_f32_i32 d (iotaInDim S2x12x4096x128 32 3) (constant S_ .f32 0x7F800000#32)
    (constantI S_ 32 0#32) reducesTo_S2x12x4096x128_S2x12x4096_d3 h_S_ j).2

/-- An assignment as a one-hot matrix. -/
def oneHot (a : IVec S2x12x4096 32) : FVec F S2x12x4096x128 .f32 :=
  uitofp .f32 (cmpi .eq
    (broadcastInDim S2x12x4096x128 ![0, 1, 2, 3] bcast_S2x12x4096x1_S2x12x4096x128_0_1_2_3
      (broadcastInDim S2x12x4096x1 ![0, 1, 2] bcast_S2x12x4096_S2x12x4096x1_0_1_2 a))
    (broadcastInDim S2x12x4096x128 ![0, 1, 2, 3] bcast_S1x1x1x128_S2x12x4096x128_0_1_2_3 (iotaInDim S1x1x1x128 32 3)))

/-- The number of queries of every cluster. -/
def sizes (oh : FVec F S2x12x4096x128 .f32) : FVec F S2x12x128 .f32 :=
  Host.reduceAdd oh (constant S_ .f32 0x00000000#32) reducesTo_S2x12x4096x128_S2x12x128_d2 h_S_

/-- The majority bits of every cluster. -/
def majority (hb : FVec F S2x12x4096x32 .f32) (oh : FVec F S2x12x4096x128 .f32) : FVec F S2x12x128x32 .f32 :=
  uitofp .f32 (cmpf .ogt
    (Host.divf (Host.dotGeneral dot_S2x12x4096x128_S2x12x4096x32_S2x12x128x32_2_2_3_3_01_01 none oh hb)
      (broadcastInDim S2x12x128x32 ![0, 1, 2, 3] bcast_S2x12x128x1_S2x12x128x32_0_1_2_3
        (broadcastInDim S2x12x128x1 ![0, 1, 2] bcast_S2x12x128_S2x12x128x1_0_1_2
          (maximumf (sizes oh) (broadcastInDim S2x12x128 ![] bcast_S_S2x12x128 (constant S_ .f32 0x3F800000#32))))))
    (broadcastInDim S2x12x128x32 ![] bcast_S_S2x12x128x32 (constant S_ .f32 0x3F000000#32)))

/-- Whether a cluster has a query, spread over a trailing axis of one. -/
def occupied (oh : FVec F S2x12x4096x128 .f32) : IVec S2x12x128x1 1 :=
  broadcastInDim S2x12x128x1 ![0, 1, 2] bcast_S2x12x128_S2x12x128x1_0_1_2
    (cmpf .ogt (sizes oh) (broadcastInDim S2x12x128 ![] bcast_S_S2x12x128 (constant S_ .f32 0x00000000#32)))

/-- The centroid where the mask allows, the old one elsewhere. -/
def keepWhere (o : IVec S2x12x128x1 1) (new old : FVec F S2x12x128x32 .f32) : FVec F S2x12x128x32 .f32 :=
  select (broadcastInDim S2x12x128x32 ![0, 1, 2, 3] bcast_S2x12x128x1_S2x12x128x32_0_1_2_3 o) new old

/-- The assignment one trip makes from a codebook. -/
def assign (hb : FVec F S2x12x4096x32 .f32) (cb : FVec F S2x12x128x32 .f32) : IVec S2x12x4096 32 :=
  nearest (distances hb (bitsSet hb) cb)

/-- The codebook one trip makes from a codebook. -/
def recentre (hb : FVec F S2x12x4096x32 .f32) (cb : FVec F S2x12x128x32 .f32) : FVec F S2x12x128x32 .f32 :=
  keepWhere (occupied (F := F) (oneHot (assign hb cb))) (majority hb (oneHot (assign hb cb))) cb

/-- The mean query of every cluster. -/
def means (oh : FVec F S2x12x4096x128 .f32) (n : FVec F S2x12x128 .f32) (q : FVec F S2x12x4096x64 .f32) :
    FVec F S2x12x128x64 .f32 :=
  mulf (Host.dotGeneral dot_S2x12x4096x128_S2x12x4096x64_S2x12x128x64_2_2_3_3_01_01 none oh q)
    (broadcastInDim S2x12x128x64 ![0, 1, 2, 3] bcast_S2x12x128x1_S2x12x128x64_0_1_2_3
      (broadcastInDim S2x12x128x1 ![0, 1, 2] bcast_S2x12x128_S2x12x128x1_0_1_2
        (Host.divf (broadcastInDim S2x12x128 ![] bcast_S_S2x12x128 (constant S_ .f32 0x3F800000#32))
          (maximumf n (broadcastInDim S2x12x128 ![] bcast_S_S2x12x128 (constant S_ .f32 0x3F800000#32))))))

/-- The scaled scores of the mean queries against the keys, with the additive mask. -/
def scores (qm : FVec F S2x12x128x64 .f32) (k : FVec F S2x12x4096x64 .f32) (kadd : FVec F S2x4096 .f32) :
    FVec F S2x12x128x4096 .f32 :=
  mulf (broadcastInDim S2x12x128x4096 ![] bcast_S_S2x12x128x4096 (constant S_ .f32 0x3E000000#32))
    (addf (Host.dotGeneral dot_S2x12x128x64_S2x12x4096x64_S2x12x128x4096_3_3_2_2_01_01 none qm k)
      (broadcastInDim S2x12x128x4096 ![0, 1, 2, 3] bcast_S2x1x1x4096_S2x12x128x4096_0_1_2_3
        (broadcastInDim S2x1x1x4096 ![0, 3] bcast_S2x4096_S2x1x1x4096_0_3 kadd)))

/-- The largest score of every cluster. -/
def tops (s : FVec F S2x12x128x4096 .f32) : FVec F S2x12x128 .f32 :=
  maximumf (broadcastInDim S2x12x128 ![] bcast_S_S2x12x128 (constant S_ .f32 0xFF800000#32))
    (Host.reduce FloatOps.maximumf s (constant S_ .f32 0xFF800000#32) reducesTo_S2x12x128x4096_S2x12x128_d3 h_S_)

/-- The exponentials of the scores, each less the largest of its cluster. -/
def exps (s : FVec F S2x12x128x4096 .f32) : FVec F S2x12x128x4096 .f32 :=
  Host.exp (subf s (broadcastInDim S2x12x128x4096 ![0, 1, 2, 3] bcast_S2x12x128x1_S2x12x128x4096_0_1_2_3
    (broadcastInDim S2x12x128x1 ![0, 1, 2] bcast_S2x12x128_S2x12x128x1_0_1_2 (tops s))))

/-- The softmax of the scores. -/
def weights (s : FVec F S2x12x128x4096 .f32) : FVec F S2x12x128x4096 .f32 :=
  Host.divf (exps s) (broadcastInDim S2x12x128x4096 ![0, 1, 2, 3] bcast_S2x12x128x1_S2x12x128x4096_0_1_2_3
    (broadcastInDim S2x12x128x1 ![0, 1, 2] bcast_S2x12x128_S2x12x128x1_0_1_2
      (Host.reduceAdd (exps s) (constant S_ .f32 0x00000000#32) reducesTo_S2x12x128x4096_S2x12x128_d3 h_S_)))

/-- The attended values of every cluster. -/
def mixed (w : FVec F S2x12x128x4096 .f32) (v : FVec F S2x12x4096x64 .f32) : FVec F S2x12x128x64 .f32 :=
  Host.dotGeneral dot_S2x12x128x4096_S2x12x4096x64_S2x12x128x64_3_2_2_3_01_01 none w v

/-- The rows to take, a negative one counted from the end. -/
def rows (a : IVec S2x12x4096 32) : IVec S2x12x4096x1 32 :=
  select
    (cmpi .slt (broadcastInDim S2x12x4096x1 ![0, 1, 2] bcast_S2x12x4096_S2x12x4096x1_0_1_2 a)
      (broadcastInDim S2x12x4096x1 ![] bcast_S_S2x12x4096x1 (constantI S_ 32 0#32)))
    (addi (broadcastInDim S2x12x4096x1 ![0, 1, 2] bcast_S2x12x4096_S2x12x4096x1_0_1_2 a)
      (broadcastInDim S2x12x4096x1 ![] bcast_S_S2x12x4096x1 (constantI S_ 32 128#32)))
    (broadcastInDim S2x12x4096x1 ![0, 1, 2] bcast_S2x12x4096_S2x12x4096x1_0_1_2 a)

/-- Whether a row to take is one of the array. -/
def inRange (r : IVec S2x12x4096x1 32) : IVec S2x12x4096 1 :=
  Host.reduce IntOp.andi
    (andi (cmpi .sge r (broadcastInDim S2x12x4096x1 ![] bcast_S_S2x12x4096x1 (constantI S_ 32 0#32)))
      (cmpi .sle r (broadcastInDim S2x12x4096x1 ![0, 1, 2, 3] bcast_S1x1x1x1_S2x12x4096x1_0_1_2_3
        (broadcastInDim S1x1x1x1 ![3] bcast_S1_S1x1x1x1_3 (constantI S1 32 127#32)))))
    (constantI S_ 1 1#1) reducesTo_S2x12x4096x1_S2x12x4096_d3 h_S_

/-- Every query takes the row of its cluster. -/
def taken (vg : FVec F S2x12x128x64 .f32) (a : IVec S2x12x4096 32) : FVec F S2x12x4096x64 .f32 :=
  select (broadcastInDim S2x12x4096x64 ![0, 1, 2] bcast_S2x12x4096_S2x12x4096x64_0_1_2 (inRange (rows a)))
    (Host.gather gather_S2x12x128x64_S2x12x4096x1_S2x12x4096x64_3_2_01_01_2_3_11164 vg (rows a))
    (broadcastInDim S2x12x4096x64 ![] bcast_S_S2x12x4096x64 (constant S_ .f32 0x7FC00000#32))

/-- The codebook after `n` trips. -/
def codebook (hb : FVec F S2x12x4096x32 .f32) (n : ℕ) : FVec F S2x12x128x32 .f32 := (recentre hb)^[n] (seeds hb)

/-- The attention part of the reference, from the last trip's assignment. -/
def attend (q k v : FVec F S2x12x4096x64 .f32) (kadd : FVec F S2x4096 .f32) (a : IVec S2x12x4096 32) :
    FVec F S2x12x4096x64 .f32 :=
  taken (mixed (weights (scores (means (oneHot a) (sizes (oneHot a)) q) k kadd)) v) a

/-- The reference's result: ten trips, the attention of the last assignment, and the trailing transpose. -/
def result (q k v : FVec F S2x4096x12x64 .f32) (kadd : FVec F S2x4096 .f32) (planes : FVec F S32x65 .f32) :
    FVec F S2x4096x12x64 .f32 :=
  transpose S2x4096x12x64 [0, 2, 1, 3]
    (attend (heads q) (heads k) (heads v) kadd
      (assign (hashBits (heads q) planes) (codebook (hashBits (heads q) planes) 9)))
    transposes_S2x12x4096x64_S2x4096x12x64_0_2_1_3

end Cert.RefFn

end
-- ==== Proof.RefOps.lean ====
/-  The reference's operations at the extended reals, each read at an index. -/
module

public import proofs.«01_k».proof.Proof.RefFn
public import Idealize.ShloMosaic.Lib.LawUnitPlain
public import proofs.«01_k».proof.Proof.Softmax

@[expose] public section

set_option maxRecDepth 16384

noncomputable section

namespace Cert.RefHead

open Cert.ReferenceIdeal Cert.ReferenceIdeal.Gen Cert.Spec
open Idealize.ShloMosaic

/-- An unsigned bit converted to a float. -/
theorem ubit (p : Bool) : FloatOps.uitofp (F := Ideal) .f32 (BitVec.ofBool p) = bit p := by
  cases p
  · exact (show (((0 : ℕ) : ℝ) : EReal) = 0 by simp)
  · exact (show (((1 : ℕ) : ℝ) : EReal) = 1 by simp)

/-- The hash bits of a head. -/
theorem hash_at (q : FVec Ideal S2x12x4096x64 .f32) (w : FVec Ideal S32x65 .f32) (n : Fin 2) (h : Fin 12) (l : Fin 4096) (b : Fin 32) :
    RefFn.hashBits q w (ix4 n h l b) = bit (hash (fun l e => q (ix4 n h l e)) (fun b e => w (ix2 b e)) l b) := by
  pointwise [RefFn.hashBits]
  exact ubit _

/-- The printed table of the seeds' positions: every 32nd query. -/
theorem lit_at : ∀ c : Fin 128, lit0 c = BitVec.ofNat 32 (32 * c) := by
  decide +kernel

/-- The row-major position of an index of rank one. -/
theorem position (c : Fin 128) : S128.rowMajor (ix1 c) = c := by
  exact Fin.ext (LawUnitPlain.rowMajorPi_one _ _)

/-- A maximum over the last of four axes is a fold over that axis. -/
theorem fold_last {n0 n1 n2 n3 : ℕ} (hR : (⟨4, ![n0, n1, n2, n3]⟩ : Shape).ReducesTo [3] ⟨3, ![n0, n1, n2]⟩) (x : FVec Ideal ⟨4, ![n0, n1, n2, n3]⟩ .f32)
   {u : Shape} (v : FVec Ideal u .f32) (hu : 0 < u.numel) (a : Fin n0) (b : Fin n1) (c : Fin n2) :
   Host.reduce FloatOps.maximumf x v hR hu (ix3 a b c) = Finset.univ.fold max (v (Shape.Idx.first hu)) (fun k : Fin n3 => x (ix4 a b c k)) := by
  simp only [pointwise]

/-- A maximum of two arrays, at an index. -/
theorem max_at {s : Shape} (x y : FVec Ideal s .f32) (i : s.Idx) : maximumf x y i = max (x i : EReal) (y i) := rfl

theorem bot_at (i : S2x12x128.Idx) : broadcastInDim S2x12x128 ![] bcast_S_S2x12x128 (constant S_ .f32 0xFF800000#32 : FVec Ideal S_ .f32) i = (⊥ : EReal) := lit_bot

theorem bot_first : (constant S_ .f32 0xFF800000#32 : FVec Ideal S_ .f32) (Shape.Idx.first h_S_) = (⊥ : EReal) := lit_bot

/-- The largest score of a cluster. -/
theorem tops_at (s : FVec Ideal S2x12x128x4096 .f32) (n : Fin 2) (h : Fin 12) (c : Fin 128) :
    RefFn.tops s (ix3 n h c) = max ⊥ (Finset.univ.fold max ⊥ fun j => s (ix4 n h c j)) := by
  unfold RefFn.tops
  rw [max_at, bot_at, fold_last, bot_first]

theorem index_toInt (c : Fin 4096) : (BitVec.ofNat 32 c).toInt.toNat = c := by
  have h := c.isLt
  rw [BitVec.toInt_eq_toNat_of_lt (by rw [BitVec.toNat_ofNat]; omega), BitVec.toNat_ofNat]
  omega

/-- The seeds' gather reads the row its index names. -/
theorem gather_seeds (x : FVec Ideal S2x12x4096x32 .f32) (idx : IVec S128x1 32) (n : Fin 2) (h : Fin 12) (c : Fin 128) (b : Fin 32)
    (r : Fin 4096) (hr : idx (ix2 c 0) = BitVec.ofNat 32 r) :
    Host.gather gather_S2x12x4096x32_S128x1_S2x12x128x32_013_2_n_n_2_1_212132 x idx (ix4 n h c b) = x (ix4 n h r b) := by
  unfold Host.gather
  refine congrArg x (funext fun a => Fin.ext ?_)
  have hsi : gather_S2x12x4096x32_S128x1_S2x12x128x32_013_2_n_n_2_1_212132.siIdx (ix4 n h c b) ⟨0, Nat.one_pos⟩ = ix2 c 0 := by
    funext b'
    match b' with
    | ⟨0, _⟩ => rfl
    | ⟨1, _⟩ => rfl
  match a with
  | ⟨0, _⟩ => exact Nat.zero_add _
  | ⟨1, _⟩ => exact Nat.zero_add _
  | ⟨2, _⟩ =>
    show min (idx (gather_S2x12x4096x32_S128x1_S2x12x128x32_013_2_n_n_2_1_212132.siIdx (ix4 n h c b) ⟨0, Nat.one_pos⟩)).toInt.toNat 4095 + 0 + 0 = r.val
    rw [hsi, hr, index_toInt]
    omega
  | ⟨3, _⟩ => exact Nat.zero_add _

/-- The last gather reads, within a head, the row its index names. -/
theorem gather_rows (x : FVec Ideal S2x12x128x64 .f32) (idx : IVec S2x12x4096x1 32) (n : Fin 2) (h : Fin 12) (l : Fin 4096) (e : Fin 64)
    (r : Fin 128) (hr : idx (ix4 n h l 0) = BitVec.ofNat 32 r) :
    Host.gather gather_S2x12x128x64_S2x12x4096x1_S2x12x4096x64_3_2_01_01_2_3_11164 x idx (ix4 n h l e) = x (ix4 n h r e) := by
  unfold Host.gather
  refine congrArg x (funext fun a => Fin.ext ?_)
  have hsi : gather_S2x12x128x64_S2x12x4096x1_S2x12x4096x64_3_2_01_01_2_3_11164.siIdx (ix4 n h l e) ⟨0, Nat.one_pos⟩ = ix4 n h l 0 := by
    funext b'
    match b' with
    | ⟨0, _⟩ => rfl
    | ⟨1, _⟩ => rfl
    | ⟨2, _⟩ => rfl
    | ⟨3, _⟩ => rfl
  match a with
  | ⟨0, _⟩ => exact Nat.zero_add _
  | ⟨1, _⟩ => exact Nat.zero_add _
  | ⟨2, _⟩ =>
    show min (idx (gather_S2x12x128x64_S2x12x4096x1_S2x12x4096x64_3_2_01_01_2_3_11164.siIdx (ix4 n h l e) ⟨0, Nat.one_pos⟩)).toInt.toNat 127 + 0 + 0 = r.val
    rw [hsi, hr]
    have := index_toInt ⟨r, by omega⟩
    have h' := r.isLt
    simp only at this
    omega
  | ⟨3, _⟩ => exact Nat.zero_add _

/-- The seeds are the hash bits of every 32nd query. -/
theorem seeds_at (hb : FVec Ideal S2x12x4096x32 .f32) (n : Fin 2) (h : Fin 12) (c : Fin 128) (b : Fin 32) :
    RefFn.seeds hb (ix4 n h c b) = hb (ix4 n h ⟨32 * c, by omega⟩ b) := by
  unfold RefFn.seeds
  refine gather_seeds _ _ n h c b ⟨32 * c, by omega⟩ ?_
  pointwise
  rw [position, lit_at]

/-- The one-hot matrix of an assignment. -/
theorem oneHot_at (a : IVec S2x12x4096 32) (n : Fin 2) (h : Fin 12) (l : Fin 4096) (c : Fin 128) (α : Fin 4096 → Fin 128)
    (ha : a (ix3 n h l) = BitVec.ofNat 32 (α l)) :
    RefFn.oneHot (F := Ideal) a (ix4 n h l c) = member α c l := by
  pointwise [RefFn.oneHot]
  rw [ha]
  have e : IntOp.cmpi .eq (BitVec.ofNat 32 (α l)) (BitVec.ofNat 32 c) = BitVec.ofBool (decide (α l = c)) := by
    have h1 := (α l).isLt
    have h2 := c.isLt
    show BitVec.ofBool (decide _) = _
    congr 1
    simp only [decide_eq_decide]
    constructor
    · intro e
      have := congrArg BitVec.toNat e
      simp only [BitVec.toNat_ofNat] at this
      apply Fin.ext
      omega
    · rintro rfl; rfl
  rw [e, ubit]
  simp [bit, member]

/-- An empty cluster keeps its centroid. -/
theorem keep_at (oh : FVec Ideal S2x12x4096x128 .f32) (new old : FVec Ideal S2x12x128x32 .f32) (n : Fin 2) (h : Fin 12) (c : Fin 128) (b : Fin 32) :
    RefFn.keepWhere (RefFn.occupied oh) new old (ix4 n h c b) = if 0 < (∑ l, oh (ix4 n h l c)) then new (ix4 n h c b) else old (ix4 n h c b) := by
  pointwise [RefFn.keepWhere, RefFn.occupied, RefFn.sizes]

/-- The row of a cluster is its number. -/
theorem rows_at (a : IVec S2x12x4096 32) (n : Fin 2) (h : Fin 12) (l : Fin 4096) (c : Fin 128) (ha : a (ix3 n h l) = BitVec.ofNat 32 c) (z : Fin 1) :
    RefFn.rows a (ix4 n h l z) = BitVec.ofNat 32 c := by
  pointwise [RefFn.rows]
  rw [ha]
  have hc : ∀ c : Fin 128, Scalar.select (IntOp.cmpi CmpIPredicate.slt (BitVec.ofNat 32 c) 0#32) (IntOp.addi (BitVec.ofNat 32 c) 128#32) (BitVec.ofNat 32 c) = BitVec.ofNat 32 c := by decide +kernel
  exact hc c

/-- Every query takes its cluster's row. -/
theorem taken_at (vg : FVec Ideal S2x12x128x64 .f32) (a : IVec S2x12x4096 32) (n : Fin 2) (h : Fin 12) (l : Fin 4096) (e : Fin 64) (c : Fin 128) (ha : a (ix3 n h l) = BitVec.ofNat 32 c) :
    RefFn.taken vg a (ix4 n h l e) = vg (ix4 n h c e) := by
  pointwise [RefFn.taken, RefFn.inRange]
  have hc : ∀ c : Fin 128, IntOp.andi (IntOp.cmpi CmpIPredicate.sge (BitVec.ofNat 32 c) 0#32) (IntOp.cmpi CmpIPredicate.sle (BitVec.ofNat 32 c) 127#32) = 1#1 := by decide +kernel
  simp only [rows_at a n h l c ha, hc]
  rw [gather_rows vg (RefFn.rows a) n h l e c (rows_at a n h l c ha 0)]
  rfl

/-- An entry of an argument read as `[n, h, l, e]`. -/
theorem heads_at (x : FVec Ideal S2x4096x12x64 .f32) (n : Fin 2) (h : Fin 12) (l : Fin 4096) (e : Fin 64) :
    RefFn.heads x (ix4 n h l e) = x (ix4 n l h e) := by
  pointwise [RefFn.heads]

/-- The number of bits set, as a sum. -/
theorem pop_at (hb : FVec Ideal S2x12x4096x32 .f32) (n : Fin 2) (h : Fin 12) (l : Fin 4096) :
    RefFn.bitsSet hb (ix3 n h l) = ∑ b, hb (ix4 n h l b) := by
  pointwise [RefFn.bitsSet]

/-- The Hamming distance: both counts of bits, less twice the overlap. -/
theorem dist_at (hb : FVec Ideal S2x12x4096x32 .f32) (pop : FVec Ideal S2x12x4096 .f32) (cb : FVec Ideal S2x12x128x32 .f32)
    (n : Fin 2) (h : Fin 12) (l : Fin 4096) (c : Fin 128) : RefFn.distances hb pop cb (ix4 n h l c)
      = (pop (ix3 n h l) + ∑ b, cb (ix4 n h c b)) - ((2 : ℝ) : EReal) * ∑ b, hb (ix4 n h l b) * cb (ix4 n h c b) := by
  pointwise [RefFn.distances]
  rw [lit_two]

/-- The size of a cluster. -/
theorem sizes_at (oh : FVec Ideal S2x12x4096x128 .f32) (n : Fin 2) (h : Fin 12) (c : Fin 128) :
    RefFn.sizes oh (ix3 n h c) = ∑ l, oh (ix4 n h l c) := by
  pointwise [RefFn.sizes]

/-- The majority bit of a cluster. -/
theorem majority_at (hb : FVec Ideal S2x12x4096x32 .f32) (oh : FVec Ideal S2x12x4096x128 .f32) (n : Fin 2) (h : Fin 12) (c : Fin 128)
    (b : Fin 32) : RefFn.majority hb oh (ix4 n h c b) = bit (decide (Ideal.ofBits .f32 0x3F000000#32
      < Ideal.div (∑ l, oh (ix4 n h l c) * hb (ix4 n h l b)) (max (∑ l, oh (ix4 n h l c)) 1))) := by
  pointwise [RefFn.majority, RefFn.sizes]
  exact ubit _

/-- The mean query of a cluster. -/
theorem means_at (oh : FVec Ideal S2x12x4096x128 .f32) (sz : FVec Ideal S2x12x128 .f32) (q : FVec Ideal S2x12x4096x64 .f32)
    (n : Fin 2) (h : Fin 12) (c : Fin 128) (e : Fin 64) : RefFn.means oh sz q (ix4 n h c e)
      = (∑ l, oh (ix4 n h l c) * q (ix4 n h l e)) * Ideal.div 1 (max (sz (ix3 n h c)) 1) := by
  pointwise [RefFn.means]

/-- The scaled score of a cluster against a key. -/
theorem scores_at (qm : FVec Ideal S2x12x128x64 .f32) (k : FVec Ideal S2x12x4096x64 .f32) (kadd : FVec Ideal S2x4096 .f32) (n : Fin 2)
    (h : Fin 12) (c : Fin 128) (j : Fin 4096) : RefFn.scores qm k kadd (ix4 n h c j)
      = Ideal.ofBits .f32 0x3E000000#32 * ((∑ e, qm (ix4 n h c e) * k (ix4 n h j e)) + kadd (ix2 n j)) := by
  pointwise [RefFn.scores]

/-- The softmax weight of a key. -/
theorem weights_at (s : FVec Ideal S2x12x128x4096 .f32) (n : Fin 2) (h : Fin 12) (c : Fin 128) (j : Fin 4096) :
    RefFn.weights s (ix4 n h c j) = Ideal.div (Ideal.exp (s (ix4 n h c j) - RefFn.tops s (ix3 n h c)))
      (∑ i, Ideal.exp (s (ix4 n h c i) - RefFn.tops s (ix3 n h c))) := by
  pointwise [RefFn.weights, RefFn.exps]

/-- The attended values of a cluster. -/
theorem mixed_at (w : FVec Ideal S2x12x128x4096 .f32) (v : FVec Ideal S2x12x4096x64 .f32) (n : Fin 2) (h : Fin 12) (c : Fin 128)
    (e : Fin 64) : RefFn.mixed w v (ix4 n h c e) = ∑ j, w (ix4 n h c j) * v (ix4 n h j e) := by
  pointwise [RefFn.mixed]

end Cert.RefHead

end
-- ==== Proof.Nearest.lean ====
/-  The reference's argmin at the extended reals: a fold over the pairs (distance, index) that keeps the smaller distance and,
    of equal distances, the smaller index. Whatever the order of the fold, it ends at the least pair. -/
module

public import proofs.«01_k».proof.Proof.RefFn
public import proofs.«01_k».proof.Proof.Spec

@[expose] public section

set_option maxRecDepth 16384

noncomputable section

namespace Cert.RefHead

open Cert.ReferenceIdeal Cert.ReferenceIdeal.Gen Cert.Spec
open Idealize.ShloMosaic

/-- A pair comes no later than another: by its number first, then by its index read as a signed integer. -/
def Before (p r : EReal × BitVec 32) : Prop := p.1 < r.1 ∨ p.1 = r.1 ∧ p.2.toInt ≤ r.2.toInt

theorem Before.refl (p : EReal × BitVec 32) : Before p p := Or.inr ⟨rfl, le_refl _⟩

theorem Before.trans {p r s : EReal × BitVec 32} (h₁ : Before p r) (h₂ : Before r s) : Before p s := by
  rcases h₁ with h₁ | ⟨e₁, h₁⟩ <;> rcases h₂ with h₂ | ⟨e₂, h₂⟩
  · exact Or.inl (h₁.trans h₂)
  · exact Or.inl (e₂ ▸ h₁)
  · exact Or.inl (e₁ ▸ h₂)
  · exact Or.inr ⟨e₁.trans e₂, h₁.trans h₂⟩

/-- One step of the fold keeps one of the two pairs. -/
theorem reducer_eq (a b : EReal × BitVec 32) : reducer_argmin_f32_i32 (F := Ideal) a b
    = if a.1 < b.1 ∨ a.1 = b.1 ∧ a.2.toInt < b.2.toInt then a else b := by
  obtain ⟨x, i⟩ := a
  obtain ⟨y, j⟩ := b
  have hs : IntOp.cmpi .slt i j = BitVec.ofBool (decide (i.toInt < j.toInt)) := rfl
  have h₁ : FloatOps.cmpf (F := Ideal) (φ := .f32) .olt x y = BitVec.ofBool (decide (x < y)) := rfl
  have h₂ : FloatOps.cmpf (F := Ideal) (φ := .f32) .une x x = 0#1 := by simp [Ideal.cmpf_def, Ideal.cmp]
  have h₃ : FloatOps.cmpf (F := Ideal) (φ := .f32) .oeq x y = BitVec.ofBool (decide (x = y)) := rfl
  unfold reducer_argmin_f32_i32
  simp only [hs, h₁, h₂, h₃]
  by_cases hlt : x < y
  · have h1 : ∀ z : BitVec 1, 1#1 ||| z = 1#1 := by decide
    simp [hlt, Scalar.select, IntOp.ori, h1]
  · by_cases he : x = y
    · subst he
      by_cases hi : i.toInt < j.toInt <;> simp [hi, Scalar.select, IntOp.ori, IntOp.andi]
    · simp [hlt, he, Scalar.select, IntOp.ori, IntOp.andi]

theorem reducer_cases (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [reducer_eq]
  by_cases h : a.1 < b.1 ∨ a.1 = b.1 ∧ a.2.toInt < b.2.toInt
  · rw [if_pos h]
    exact ⟨Or.inl rfl, Before.refl _, h.imp id fun h => ⟨h.1, h.2.le⟩⟩
  · rw [if_neg h]
    refine ⟨Or.inr rfl, ?_, Before.refl _⟩
    rcases lt_trichotomy a.1 b.1 with h' | h' | h'
    · exact absurd (Or.inl h') h
    · exact Or.inr ⟨h'.symm, not_lt.1 fun h'' => h (Or.inr ⟨h', h''⟩)⟩
    · exact Or.inl h'

/-- The fold ends at one of the pairs it has met, and that pair comes no later than any of them. -/
theorem foldl_least (L : List (EReal × BitVec 32)) : ∀ p : EReal × BitVec 32,
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ r ∈ L, Before (L.foldl (reducer_argmin_f32_i32 (F := Ideal)) p) r := by
  induction L with
  | nil => exact fun p => ⟨Or.inl rfl, Before.refl _, fun r hr => absurd hr List.not_mem_nil⟩
  | cons a L ih =>
    intro p
    rw [List.foldl_cons]
    obtain ⟨hm, hp, hL⟩ := ih (reducer_argmin_f32_i32 (F := Ideal) p a)
    obtain ⟨hc, h₁, h₂⟩ := reducer_cases p a
    refine ⟨?_, hp.trans h₁, fun r hr => ?_⟩
    · rcases hm with hm | hm
      · rcases hc with hc | hc
        · exact Or.inl (hm.trans hc)
        · exact Or.inr (List.mem_cons.2 (Or.inl (hm.trans hc)))
      · exact Or.inr (List.mem_cons_of_mem _ hm)
    · rcases List.mem_cons.1 hr with rfl | hr
      · exact hp.trans h₂
      · exact hL r hr

/-- Dropping the last of four coordinates leaves the first three. -/
theorem drop_last {n0 n1 n2 n3 : ℕ} (hR : (⟨4, ![n0, n1, n2, n3]⟩ : Shape).ReducesTo [3] ⟨3, ![n0, n1, n2]⟩) (a : Fin n0) (b : Fin n1)
    (c : Fin n2) (i : (⟨4, ![n0, n1, n2, n3]⟩ : Shape).Idx) : hR.drop i = ix3 a b c ↔ ∃ k : Fin n3, ix4 a b c k = i :=
  hR.fiber_r4_a3 (ix3 a b c) i

/-- The indices that the argmin at `(n, h, l)` runs over are the `(n, h, l, c)`. -/
theorem drop_iff (n : Fin 2) (h : Fin 12) (l : Fin 4096) (i : S2x12x4096x128.Idx) :
    reducesTo_S2x12x4096x128_S2x12x4096_d3.drop i = ix3 n h l ↔ ∃ c : Fin 128, ix4 n h l c = i :=
  drop_last reducesTo_S2x12x4096x128_S2x12x4096_d3 n h l i

theorem index_at (n : Fin 2) (h : Fin 12) (l : Fin 4096) (c : Fin 128) :
    iotaInDim S2x12x4096x128 32 3 (ix4 n h l c) = BitVec.ofNat 32 c := rfl

theorem toInt_index (c : Fin 128) : (BitVec.ofNat 32 c).toInt = (c : ℤ) := by
  have h := c.isLt
  rw [BitVec.toInt_eq_toNat_of_lt (by rw [BitVec.toNat_ofNat]; omega), BitVec.toNat_ofNat]
  omega

/-- The pairs that the argmin at `(n, h, l)` folds. -/
def pairs (d : FVec Ideal S2x12x4096x128 .f32) (n : Fin 2) (h : Fin 12) (l : Fin 4096) : List (EReal × BitVec 32) :=
  Host.argReduceFiber d (iotaInDim S2x12x4096x128 32 3) reducesTo_S2x12x4096x128_S2x12x4096_d3 (ix3 n h l)

theorem mem_fiber {s t : Shape} {axes : List (Fin s.rank)} {α β : Type} (x : s.Idx → α) (y : s.Idx → β) (hR : s.ReducesTo axes t)
    (j : t.Idx) (p : α × β) : p ∈ Host.argReduceFiber x y hR j ↔ ∃ i, hR.drop i = j ∧ (x i, y i) = p := by
  unfold Host.argReduceFiber
  simp only [List.mem_map, List.mem_filter, List.mem_finRange, true_and, decide_eq_true_eq]
  constructor
  · rintro ⟨k, hk, rfl⟩
    exact ⟨_, hk, rfl⟩
  · rintro ⟨i, hi, rfl⟩
    refine ⟨s.rowMajor i, ?_, ?_⟩ <;> rw [Equiv.symm_apply_apply]
    exact hi

theorem mem_pairs (d : FVec Ideal S2x12x4096x128 .f32) (n : Fin 2) (h : Fin 12) (l : Fin 4096) (p : EReal × BitVec 32) :
    p ∈ pairs d n h l ↔ ∃ c : Fin 128, (d (ix4 n h l c), BitVec.ofNat 32 c) = p := by
  refine (mem_fiber d (iotaInDim S2x12x4096x128 32 3) reducesTo_S2x12x4096x128_S2x12x4096_d3 (ix3 n h l) p).trans ?_
  constructor
  · rintro ⟨i, hi, rfl⟩
    obtain ⟨c, rfl⟩ := (drop_iff n h l i).1 hi
    exact ⟨c, by rw [index_at]⟩
  · rintro ⟨c, rfl⟩
    exact ⟨ix4 n h l c, (drop_iff n h l _).2 ⟨c, rfl⟩, by rw [index_at]⟩

theorem top_at : (constant S_ .f32 0x7F800000#32 : FVec Ideal S_ .f32) (Shape.Idx.first h_S_) = (⊤ : EReal) := lit_top

/-- An argmin that folds from `p` ends at the fold of its fiber. -/
theorem argReduce_fold {s t u : Shape} {axes : List (Fin s.rank)} (f : EReal × BitVec 32 → EReal × BitVec 32 → EReal × BitVec 32)
    (x : FVec Ideal s .f32) (y : s.Idx → BitVec 32) (ix : FVec Ideal u .f32) (iy : u.Idx → BitVec 32) (hR : s.ReducesTo axes t)
    (hu : 0 < u.numel) (j : t.Idx) (a : EReal) (b : BitVec 32) (ha : ix (Shape.Idx.first hu) = a) (hb : iy (Shape.Idx.first hu) = b) :
    Host.argReduce (F := Ideal) (φ := .f32) f x y ix iy hR hu j = (Host.argReduceFiber x y hR j).foldl f (a, b) := by
  subst ha hb
  rw [Ideal.argReduce_eq_reduce2, Host.reduce2_eq_foldl_fiber]

/-- The argmin's indices are the second components of pairs at which the folds end. -/
theorem nearest_fold (d : FVec Ideal S2x12x4096x128 .f32) : ∃ A : S2x12x4096.Idx → EReal × BitVec 32,
    (∀ n h l, (pairs d n h l).foldl (reducer_argmin_f32_i32 (F := Ideal)) (⊤, 0#32) = A (ix3 n h l))
      ∧ RefFn.nearest d = fun j => (A j).2 :=
  ⟨Host.argReduce (F := Ideal) (φ := .f32) reducer_argmin_f32_i32 d (iotaInDim S2x12x4096x128 32 3) (constant S_ .f32 0x7F800000#32)
      (constantI S_ 32 0#32) reducesTo_S2x12x4096x128_S2x12x4096_d3 h_S_,
    fun n h l => (argReduce_fold _ d _ _ _ _ h_S_ _ ⊤ 0#32 top_at rfl).symm, rfl⟩

/-- THE ARGMIN: where the distances are integers, the nearest centroid is the first of the least. -/
theorem nearest_at (d : FVec Ideal S2x12x4096x128 .f32) (n : Fin 2) (h : Fin 12) (l : Fin 4096) (D : Fin 128 → ℤ)
    (hd : ∀ c, d (ix4 n h l c) = ((D c : ℝ) : EReal)) : RefFn.nearest d (ix3 n h l) = BitVec.ofNat 32 (near D) := by
  have hmem : ∀ p, p ∈ pairs d n h l ↔ ∃ c : Fin 128, ((((D c : ℝ) : EReal), BitVec.ofNat 32 c) : EReal × BitVec 32) = p := by
    intro p
    rw [mem_pairs]
    simp only [hd]
  obtain ⟨A, hf, hz⟩ := nearest_fold d
  rw [hz]
  show (A (ix3 n h l)).2 = _
  obtain ⟨hm, -, hL⟩ := foldl_least (pairs d n h l) (⊤, 0#32)
  rw [hf] at hm hL
  generalize A (ix3 n h l) = r at hm hL ⊢
  have hr : ∃ c : Fin 128, ((((D c : ℝ) : EReal), BitVec.ofNat 32 c) : EReal × BitVec 32) = r := by
    rcases hm with rfl | hm
    · rcases hL _ ((hmem _).2 ⟨0, rfl⟩) with h' | h'
      · exact absurd h' not_top_lt
      · exact absurd h'.1.symm (EReal.coe_ne_top _)
    · exact (hmem r).1 hm
  obtain ⟨c, rfl⟩ := hr
  show BitVec.ofNat 32 c = _
  rw [near_unique (s := D) (c := c)]
  intro c'
  rcases hL _ ((hmem _).2 ⟨c', rfl⟩) with h' | ⟨h', h''⟩
  · left
    have : ((D c : ℝ) : EReal) < ((D c' : ℝ) : EReal) := h'
    exact_mod_cast this
  · right
    have e : ((D c : ℝ) : EReal) = ((D c' : ℝ) : EReal) := h'
    have i : (BitVec.ofNat 32 c).toInt ≤ (BitVec.ofNat 32 c').toInt := h''
    rw [toInt_index, toInt_index] at i
    refine ⟨by exact_mod_cast e, ?_⟩
    rw [Fin.le_def]
    omega

end Cert.RefHead

end
-- ==== Proof.RefHead.lean ====
/-  One head of the reference: its clustering is the plain one of `Spec`, and its attention is `mixEach` at the largest score. -/
module

public import proofs.«01_k».proof.Proof.RefOps
public import proofs.«01_k».proof.Proof.Nearest

@[expose] public section

set_option maxRecDepth 16384

noncomputable section

namespace Cert.RefHead

open Cert.ReferenceIdeal Cert.ReferenceIdeal.Gen Cert.Spec
open Idealize.ShloMosaic

variable {hb : FVec Ideal S2x12x4096x32 .f32} {β : Fin 2 → Fin 12 → Fin 4096 → Fin 32 → Bool}
  {cb : FVec Ideal S2x12x128x32 .f32} {κ : Fin 2 → Fin 12 → Fin 128 → Fin 32 → Bool}

/-- A number added to every score doesn't move the first of the least. -/
theorem near_add (p : ℤ) (s : Fin 128 → ℤ) : near (fun c => p + s c) = near s := by
  refine near_unique fun c' => ?_
  have h := near_spec s c'
  rw [Fin.le_def] at h ⊢
  omega

/-- The assignment one trip makes. -/
theorem assign_at (hβ : ∀ n h l b, hb (ix4 n h l b) = bit (β n h l b)) (hκ : ∀ n h c b, cb (ix4 n h c b) = bit (κ n h c b))
    (n : Fin 2) (h : Fin 12) (l : Fin 4096) :
    RefFn.assign hb cb (ix3 n h l) = BitVec.ofNat 32 (Spec.assign (β n h) (κ n h) l) := by
  unfold RefFn.assign
  refine (nearest_at _ n h l (fun c => pop (β n h l) + score (β n h) (κ n h) l c) fun c => ?_).trans ?_
  · rw [dist_at, pop_at]
    simp only [hβ, hκ, sum_bit, sum_bit_mul]
    rw [← EReal.coe_add, ← EReal.coe_mul, ← EReal.coe_sub, score]
    congr 1
    push_cast
    ring
  · rw [near_add]
    rfl

/-- The codebook one trip makes. -/
theorem recentre_at (hβ : ∀ n h l b, hb (ix4 n h l b) = bit (β n h l b)) (hκ : ∀ n h c b, cb (ix4 n h c b) = bit (κ n h c b))
    (n : Fin 2) (h : Fin 12) (c : Fin 128) (b : Fin 32) :
    RefFn.recentre hb cb (ix4 n h c b) = bit (Spec.recentre (β n h) (κ n h) c b) := by
  unfold RefFn.recentre
  have ho : ∀ l c, RefFn.oneHot (F := Ideal) (RefFn.assign hb cb) (ix4 n h l c) = member (Spec.assign (β n h) (κ n h)) c l :=
    fun l c => oneHot_at _ n h l c _ (assign_at hβ hκ n h l)
  rw [keep_at, majority_at, hκ]
  simp only [ho, hβ]
  unfold Spec.recentre Spec.majority Spec.count
  split <;> rfl

/-- The codebook after `t` trips. -/
theorem codebook_at (hβ : ∀ n h l b, hb (ix4 n h l b) = bit (β n h l b)) (t : ℕ) : ∀ (n : Fin 2) (h : Fin 12) (c : Fin 128) (b : Fin 32),
    RefFn.codebook hb t (ix4 n h c b) = bit (Spec.codebook (β n h) t c b) := by
  induction t with
  | zero =>
    intro n h c b
    show RefFn.seeds hb (ix4 n h c b) = _
    rw [seeds_at, hβ]
    rfl
  | succ t ih =>
    intro n h c b
    have e : RefFn.codebook hb (t + 1) = RefFn.recentre hb (RefFn.codebook hb t) := by
      unfold RefFn.codebook
      rw [Function.iterate_succ_apply']
    rw [e, codebook_succ]
    exact recentre_at (κ := fun n h => Spec.codebook (β n h) t) hβ ih n h c b

/-- The largest of a cluster's scores, as the reference computes it. -/
def topOf (s : Fin 4096 → EReal) : EReal := max ⊥ (Finset.univ.fold max ⊥ s)

/-- The attention of one head. -/
theorem attend_at (q k v : FVec Ideal S2x12x4096x64 .f32) (kadd : FVec Ideal S2x4096 .f32) (a : IVec S2x12x4096 32) (n : Fin 2)
    (h : Fin 12) (α : Fin 4096 → Fin 128) (ha : ∀ l, a (ix3 n h l) = BitVec.ofNat 32 (α l)) (l : Fin 4096) (e : Fin 64) :
    RefFn.attend q k v kadd a (ix4 n h l e)
      = mixEach
          (topOf (logit α (fun l e => q (ix4 n h l e)) (fun l e => k (ix4 n h l e)) (fun j => kadd (ix2 n j)) (α l)))
          (logit α (fun l e => q (ix4 n h l e)) (fun l e => k (ix4 n h l e)) (fun j => kadd (ix2 n j)) (α l))
          (fun j => v (ix4 n h j e)) := by
  have ho : ∀ l c, RefFn.oneHot (F := Ideal) a (ix4 n h l c) = member α c l := fun l c => oneHot_at _ n h l c _ (ha l)
  have hs : ∀ c j, RefFn.scores (RefFn.means (RefFn.oneHot a) (RefFn.sizes (RefFn.oneHot a)) q) k kadd (ix4 n h c j)
      = logit α (fun l e => q (ix4 n h l e)) (fun l e => k (ix4 n h l e)) (fun j => kadd (ix2 n j)) c j := by
    intro c j
    rw [scores_at]
    simp only [means_at, sizes_at, ho]
    rfl
  unfold RefFn.attend
  rw [taken_at _ a n h l e (α l) (ha l), mixed_at]
  simp only [weights_at, tops_at, hs]
  rfl

/-- THE REFERENCE'S RESULT, entry by entry: `mixEach` over the head of the entry. -/
theorem result_at (q k v : FVec Ideal S2x4096x12x64 .f32) (kadd : FVec Ideal S2x4096 .f32) (planes : FVec Ideal S32x65 .f32)
    (n : Fin 2) (l : Fin 4096) (h : Fin 12) (e : Fin 64) (a : Fin 4096 → Fin 128) (s : Fin 4096 → EReal)
    (ea : a = cluster (fun l e => q (ix4 n l h e)) (fun b e => planes (ix2 b e)))
    (es : s = logit a (fun l e => q (ix4 n l h e)) (fun l e => k (ix4 n l h e)) (fun j => kadd (ix2 n j)) (a l)) :
    RefFn.result q k v kadd planes (ix4 n l h e) = mixEach (topOf s) s (fun j => v (ix4 n j h e)) := by
  have hβ : ∀ n h l b, RefFn.hashBits (RefFn.heads q) planes (ix4 n h l b)
      = bit (hash (fun l e => q (ix4 n l h e)) (fun b e => planes (ix2 b e)) l b) := by
    intro n h l b
    rw [hash_at]
    simp only [heads_at]
  have ha : ∀ l, RefFn.assign (RefFn.hashBits (RefFn.heads q) planes) (RefFn.codebook (RefFn.hashBits (RefFn.heads q) planes) 9)
      (ix3 n h l) = BitVec.ofNat 32 (a l) := by
    intro l
    rw [assign_at hβ (codebook_at hβ 9) n h l, ea]
    rfl
  have ht : ∀ x : FVec Ideal S2x12x4096x64 .f32, transpose S2x4096x12x64 [0, 2, 1, 3] x
      transposes_S2x12x4096x64_S2x4096x12x64_0_2_1_3 (ix4 n l h e) = x (ix4 n h l e) := by
    intro x
    pointwise
  unfold RefFn.result
  rw [ht, attend_at _ _ _ _ _ n h a ha l e]
  simp only [heads_at]
  rw [es]

end Cert.RefHead

end
-- ==== Proof.KernelHead.lean ====
/-  What the kernel's body computes for one head: its hash bits, its seeds, one trip of its loop and the block it stores, each
    read at an index and expressed by the plain mathematics of Spec and Softmax. -/
module

public import proofs.«01_k».proof.Proof.Softmax
public import proofs.«01_k».proof.Proof.Gen.KernelIdeal.Skeleton

@[expose] public section

set_option maxRecDepth 16384

noncomputable section

namespace Cert.KernelHead

open Cert.KernelIdeal Cert.KernelIdeal.Gen Cert.Spec
open Idealize.ShloMosaic Idealize.ShloMosaic.TcCoe

/-! ## Words -/

theorem word_bit (p : Bool) : FloatOps.sitofp (F := Ideal) .f32 (BitVec.setWidth 32 (BitVec.ofBool p)) = bit p := by
  cases p
  · exact (show (((0 : ℤ) : ℝ) : EReal) = 0 by simp)
  · exact (show (((1 : ℤ) : ℝ) : EReal) = 1 by simp)

theorem word_index (n : ℕ) (h : n < 4096) : FloatOps.sitofp (F := Ideal) .f32 (BitVec.ofNat 32 n) = (((n : ℤ) : ℝ) : EReal) := by
  refine congrArg (fun z : ℤ => ((z : ℝ) : EReal)) (?_ : (BitVec.ofNat 32 n).toInt = (n : ℤ))
  rw [BitVec.toInt_ofNat', Int.bmod_def]
  omega

theorem cmp_index (x l : ℕ) (hx : x < 4096) (hl : l < 128) :
    IntOp.cmpi .eq (BitVec.ofNat 32 x) (IntOp.muli (32#32) (BitVec.ofNat 32 l)) = BitVec.ofBool (decide (x = 32 * l)) := by
  have h : (BitVec.ofNat 32 x == 32#32 * BitVec.ofNat 32 l) = decide (x = 32 * l) := by
    rw [Bool.eq_iff_iff, beq_iff_eq, decide_eq_true_iff, ← BitVec.toNat_inj, BitVec.toNat_mul, BitVec.toNat_ofNat, BitVec.toNat_ofNat,
      BitVec.toNat_ofNat]
    omega
  exact congrArg BitVec.ofBool h

/-- A sum against the indicator of one index is the term there, whatever the terms are. -/
theorem sum_indicator {n : ℕ} (i : Fin n) (f : Fin n → EReal) : ∑ x, bit (decide (x = i)) * f x = f i := by
  rw [Finset.sum_eq_single i (fun x _ h => by simp [bit, h]) (fun h => absurd (Finset.mem_univ i) h)]
  simp [bit]

/-- A number equals the minimum of a family from +∞ exactly when it is below all of them. -/
theorem eq_fold_min_iff (K : Fin 128 → ℤ) (c : Fin 128) :
    ((K c : ℝ) : EReal) = Finset.univ.fold min ⊤ (fun x => ((K x : ℝ) : EReal)) ↔ ∀ c', K c ≤ K c' := by
  rw [show Finset.univ.fold min ⊤ (fun x => ((K x : ℝ) : EReal)) = Finset.univ.inf (fun x => ((K x : ℝ) : EReal)) from rfl]
  constructor
  · intro h c'
    have h' : ((K c : ℝ) : EReal) ≤ ((K c' : ℝ) : EReal) := h ▸ Finset.inf_le (Finset.mem_univ c')
    exact_mod_cast h'
  · intro h
    refine le_antisymm (Finset.le_inf fun c' _ => by exact_mod_cast h c') (Finset.inf_le (f := fun x => ((K x : ℝ) : EReal)) (Finset.mem_univ c))

/-- The kernel's key, as an integer. -/
theorem key_coe (β : Fin 4096 → Fin 32 → Bool) (κ : Fin 128 → Fin 32 → Bool) (l : Fin 4096) (c : Fin 128) :
    ((overlap (κ c) (β l) : ℝ) : EReal) * ((-256 : ℝ) : EReal) + (((pop (κ c) : ℝ) : EReal) * ((128 : ℝ) : EReal) + (((c : ℕ) : ℤ) : ℝ))
      = (((score β κ l c * 128 + (c : ℤ) : ℤ) : ℝ) : EReal) := by
  rw [← EReal.coe_mul, ← EReal.coe_mul, ← EReal.coe_add, ← EReal.coe_add, overlap_comm, score]
  congr 1
  push_cast
  ring

/-! ## The clustering -/

/-- What one trip makes of the carried codebook, one-hot matrix and sizes: it reads the codebook alone. -/
def trip (q : FVec Ideal S1x4096x64 .f32) (w : FVec Ideal S32x64 .f32) (b : FVec Ideal S32x1 .f32)
    (s : FVec Ideal S128x32 .f32 × FVec Ideal S128x4096 .f32 × FVec Ideal S128x1 .f32) :
    FVec Ideal S128x32 .f32 × FVec Ideal S128x4096 .f32 × FVec Ideal S128x1 .f32 :=
  (k0_pay10 q w b s.1, k0_pay7 q w b s.1, k0_pay9 q w b s.1)

/-- What the loop carries after `n` trips. -/
def carried (q : FVec Ideal S1x4096x64 .f32) (w : FVec Ideal S32x64 .f32) (b : FVec Ideal S32x1 .f32) (n : ℕ) :
    FVec Ideal S128x32 .f32 × FVec Ideal S128x4096 .f32 × FVec Ideal S128x1 .f32 :=
  (trip q w b)^[n] (k0_pay4 q w b, k0_pay5, k0_pay6)

theorem carried_succ (q : FVec Ideal S1x4096x64 .f32) (w : FVec Ideal S32x64 .f32) (b : FVec Ideal S32x1 .f32) (n : ℕ) :
    carried q w b (n + 1) = trip q w b (carried q w b n) := by rw [carried, carried, Function.iterate_succ_apply']

section Clustering

variable (q : FVec Ideal S1x4096x64 .f32) (w : FVec Ideal S32x64 .f32) (b : FVec Ideal S32x1 .f32)

/-- The hash bits. -/
theorem hash_at (W : Fin 32 → Fin 65 → EReal) (hw : ∀ i (e : Fin 64), w (ix2 i e) = W i ⟨e, by omega⟩) (hb : ∀ i, b (ix2 i 0) = W i 64)
    (l : Fin 4096) (i : Fin 32) :
    k0_pay3 (F := Ideal) q w b (ix2 l i) = bit (hash (fun l e => q (ix3 0 l e)) W l i) := by
  pointwise [k0_pay3, k0_pay2]
  rw [word_bit]
  simp only [hw, hb]
  rfl

variable (β : Fin 4096 → Fin 32 → Bool) (hβ : ∀ l i, k0_pay3 (F := Ideal) q w b (ix2 l i) = bit (β l i))
include hβ

/-- The seeds. -/
theorem seeds_at (c : Fin 128) (i : Fin 32) : k0_pay4 (F := Ideal) q w b (ix2 c i) = bit (seeds β c i) := by
  pointwise [k0_pay4]
  refine Eq.trans (Finset.sum_congr rfl fun x _ => ?_) (sum_indicator (⟨32 * c, by omega⟩ : Fin 4096) fun x => bit (β x i))
  rw [cmp_index x c x.isLt c.isLt, word_bit, hβ]
  congr 2
  simp only [Fin.ext_iff]

variable (κ : Fin 128 → Fin 32 → Bool) (cb : FVec Ideal S128x32 .f32) (hκ : ∀ c i, cb (ix2 c i) = bit (κ c i))
include hκ

/-- The one-hot matrix of a trip is the membership of the nearest centroid. -/
theorem member_at (c : Fin 128) (l : Fin 4096) : k0_pay7 (F := Ideal) q w b cb (ix2 c l) = member (assign β κ) c l := by
  pointwise [k0_pay7]
  rw [word_bit]
  have hidx : ∀ x : Fin 128, FloatOps.sitofp (F := Ideal) .f32 (BitVec.ofNat 32 x) = ((((x : ℕ) : ℤ) : ℝ) : EReal) :=
    fun x => word_index x (by omega)
  simp only [hβ, hκ, sum_bit_mul, sum_bit, lit_neg256, lit_128, lit_top, hidx, key_coe]
  have e := (eq_fold_min_iff (fun x => score β κ l x * 128 + (x : ℤ)) c).trans (key_le_iff (score β κ l) c)
  unfold bit member assign
  simp only [decide_eq_true_eq]
  exact if_congr e rfl rfl

/-- The cluster sizes of a trip. -/
theorem count_at (c : Fin 128) : k0_pay9 (F := Ideal) q w b cb (ix2 c 0) = count (assign β κ) c := by
  pointwise [k0_pay9, k0_pay8]
  exact Finset.sum_congr rfl fun l _ => member_at q w b β hβ κ cb hκ c l

/-- The centroids of a trip. -/
theorem recentre_at (c : Fin 128) (i : Fin 32) : k0_pay10 (F := Ideal) q w b cb (ix2 c i) = bit (recentre β κ c i) := by
  pointwise [k0_pay10, k0_pay9, k0_pay8]
  rw [word_bit]
  simp only [member_at q w b β hβ κ cb hκ, hβ, hκ]
  unfold recentre majority Spec.count
  split <;> rfl

omit hκ
omit cb κ

/-- The carried codebook after `n` trips. -/
theorem codebook_at : ∀ (n : ℕ) (c : Fin 128) (i : Fin 32), (carried q w b n).1 (ix2 c i) = bit (codebook β n c i)
  | 0, c, i => seeds_at q w b β hβ c i
  | n + 1, c, i => by
    rw [carried_succ, codebook_succ]
    exact recentre_at q w b β hβ (codebook β n) (carried q w b n).1 (codebook_at n) c i

/-- The one-hot matrix the `n + 1`-st trip leaves. -/
theorem last_member (n : ℕ) (c : Fin 128) (l : Fin 4096) :
    (carried q w b (n + 1)).2.1 (ix2 c l) = member (assign β (codebook β n)) c l := by
  rw [carried_succ]
  exact member_at q w b β hβ (codebook β n) (carried q w b n).1 (codebook_at q w b β hβ n) c l

/-- The sizes the `n + 1`-st trip leaves. -/
theorem last_count (n : ℕ) (c : Fin 128) :
    (carried q w b (n + 1)).2.2 (ix2 c 0) = Spec.count (assign β (codebook β n)) c := by
  rw [carried_succ]
  exact count_at q w b β hβ (codebook β n) (carried q w b n).1 (codebook_at q w b β hβ n) c

end Clustering

/-! ## The block the body stores -/

/-- From a one-hot matrix and the sizes, the body stores for every query the kernel's attention of its cluster. -/
theorem block_at (a : Fin 4096 → Fin 128) (q k v : FVec Ideal S1x4096x64 .f32) (ka : FVec Ideal S1x1x4096 .f32)
    (oh : FVec Ideal S128x4096 .f32) (n : FVec Ideal S128x1 .f32) (ho : ∀ c l, oh (ix2 c l) = member a c l)
    (hn : ∀ c, n (ix2 c 0) = Spec.count a c) (l : Fin 4096) (e : Fin 64) :
    k0_pay1 (F := Ideal) oh (k0_pay11 q oh n) k ka v (ix3 0 l e)
      = mixOnce (logit a (fun l e => q (ix3 0 l e)) (fun l e => k (ix3 0 l e)) (fun j => ka (ix3 0 0 j)) (a l)) (fun j => v (ix3 0 j e)) := by
  pointwise [k0_pay1, k0_pay11, k0_pay2]
  simp only [ho, hn]
  refine Eq.trans (Finset.sum_congr rfl fun c _ => ?_) (sum_indicator (a l) fun c =>
    mixOnce (logit a (fun l e => q (ix3 0 l e)) (fun l e => k (ix3 0 l e)) (fun j => ka (ix3 0 0 j)) c) (fun j => v (ix3 0 j e)))
  refine congrArg₂ (· * ·) ?_ rfl
  unfold member bit
  simp only [decide_eq_true_eq]
  exact if_congr eq_comm rfl rfl

end Cert.KernelHead

end
-- ==== Proof.KernelArray.lean ====
/-  The array the kernel's region leaves: every grid point writes the block of one head, `Spec.headOut` of that head's
    queries, keys, values and mask. -/
module

public import proofs.«01_k».proof.Proof.KernelHead
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelArray

open Cert.KernelIdeal Cert.KernelIdeal.Gen Cert.Spec Cert.KernelHead
open Idealize.ShloMosaic Idealize.ShloMosaic.TcCoe Idealize.SL.Sem
open Idealize.ShloMosaic.Pipeline (Dat)

variable (m : (ℓ : Loc nD τ sig) → Buf (Elt Ideal) ℓ)

/-- Which block of its array every window reads or writes at a grid point. -/
theorem idx : ∀ t : Fin cfg0.N, win0_0.index t = ![t.val, 0, 0] ∧ win0_1.index t = ![t.val, 0, 0] ∧ win0_2.index t = ![t.val, 0, 0]
    ∧ win0_3.index t = ![t.val / 12, 0, 0] ∧ win0_4.index t = ![0, 0] ∧ win0_5.index t = ![t.val, 0, 0] ∧ t.val < 24 :=
  (by decide +kernel : ∀ t : Fin grid0.N, _)

/-- The batch and the head a grid point serves. -/
def batch (t : Fin cfg0.N) : Fin 2 := ⟨t.val / 12, by have := (idx t).2.2.2.2.2.2; omega⟩
def head (t : Fin cfg0.N) : Fin 12 := ⟨t.val % 12, by omega⟩

/-! The arrays the region's windows lie over are the arguments, transposed and reshaped by the lines before it; a block of one, at an
    index, is an argument's element. -/

theorem entry_q (c : Dev nD) (t : Fin 24) (l : Fin 4096) (e : Fin 64) : V m c main_call0_v1 (ix3 t l e)
    = m ((c : Thread nD τ).loc main_arg0) (ix4 (⟨t.val / 12, by omega⟩ : Fin 2) l (⟨t.val % 12, by omega⟩ : Fin 12) e) := by
  have h : V m c main_call0_v1 = shapeCast S24x4096x64 (transpose S2x12x4096x64 [0, 2, 1, 3] (m ((c : Thread nD τ).loc main_arg0))
      transposes_S2x4096x12x64_S2x12x4096x64_0_2_1_3) shapeCasts_S2x12x4096x64_S24x4096x64 := by
    show StableHlo.after hostOps0 (fun b => m (c, b)) (Proc.devRef .tc main_call0_v1) = _
    after_results <;> rfl
  rw [h]
  pointwise

/-- A block of the queries, at an index. -/
theorem read_q (c : Dev nD) (t : Fin cfg0.N) (l : Fin 4096) (e : Fin 64) : iblk m c 0 t (ix3 0 l e)
    = m ((c : Thread nD τ).loc main_arg0) (ix4 (batch t) l (head t) e) := by
  refine Eq.trans ?_ (entry_q m c ⟨t.val, (idx t).2.2.2.2.2.2⟩ l e)
  blk_ext [iblk, idx t]

theorem entry_k (c : Dev nD) (t : Fin 24) (l : Fin 4096) (e : Fin 64) : V m c main_call0_v3 (ix3 t l e)
    = m ((c : Thread nD τ).loc main_arg1) (ix4 (⟨t.val / 12, by omega⟩ : Fin 2) l (⟨t.val % 12, by omega⟩ : Fin 12) e) := by
  have h : V m c main_call0_v3 = shapeCast S24x4096x64 (transpose S2x12x4096x64 [0, 2, 1, 3] (m ((c : Thread nD τ).loc main_arg1))
      transposes_S2x4096x12x64_S2x12x4096x64_0_2_1_3) shapeCasts_S2x12x4096x64_S24x4096x64 := by
    show StableHlo.after hostOps0 (fun b => m (c, b)) (Proc.devRef .tc main_call0_v3) = _
    after_results <;> rfl
  rw [h]
  pointwise

/-- A block of the keys, at an index. -/
theorem read_k (c : Dev nD) (t : Fin cfg0.N) (l : Fin 4096) (e : Fin 64) : iblk m c 1 t (ix3 0 l e)
    = m ((c : Thread nD τ).loc main_arg1) (ix4 (batch t) l (head t) e) := by
  refine Eq.trans ?_ (entry_k m c ⟨t.val, (idx t).2.2.2.2.2.2⟩ l e)
  blk_ext [iblk, idx t]

theorem entry_v (c : Dev nD) (t : Fin 24) (l : Fin 4096) (e : Fin 64) : V m c main_call0_v5 (ix3 t l e)
    = m ((c : Thread nD τ).loc main_arg2) (ix4 (⟨t.val / 12, by omega⟩ : Fin 2) l (⟨t.val % 12, by omega⟩ : Fin 12) e) := by
  have h : V m c main_call0_v5 = shapeCast S24x4096x64 (transpose S2x12x4096x64 [0, 2, 1, 3] (m ((c : Thread nD τ).loc main_arg2))
      transposes_S2x4096x12x64_S2x12x4096x64_0_2_1_3) shapeCasts_S2x12x4096x64_S24x4096x64 := by
    show StableHlo.after hostOps0 (fun b => m (c, b)) (Proc.devRef .tc main_call0_v5) = _
    after_results <;> rfl
  rw [h]
  pointwise

/-- A block of the values, at an index. -/
theorem read_v (c : Dev nD) (t : Fin cfg0.N) (l : Fin 4096) (e : Fin 64) : iblk m c 2 t (ix3 0 l e)
    = m ((c : Thread nD τ).loc main_arg2) (ix4 (batch t) l (head t) e) := by
  refine Eq.trans ?_ (entry_v m c ⟨t.val, (idx t).2.2.2.2.2.2⟩ l e)
  blk_ext [iblk, idx t]

theorem cast_mask (x : FVec Ideal S2x4096 .f32) (n : Fin 2) (l : Fin 4096) :
    shapeCast S2x1x4096 x shapeCasts_S2x4096_S2x1x4096 (ix3 n 0 l) = x (ix2 n l) := by
  pointwise

theorem entry_kadd (c : Dev nD) (n : Fin 2) (l : Fin 4096) : V m c main_call0_v6 (ix3 n 0 l)
    = m ((c : Thread nD τ).loc main_arg3) (ix2 n l) := by
  have h : V m c main_call0_v6 = shapeCast S2x1x4096 (m ((c : Thread nD τ).loc main_arg3)) shapeCasts_S2x4096_S2x1x4096 := by
    show StableHlo.after hostOps0 (fun b => m (c, b)) (Proc.devRef .tc main_call0_v6) = _
    after_results <;> rfl
  rw [h]
  exact cast_mask _ n l

/-- A block of the additive mask, at an index. -/
theorem read_kadd (c : Dev nD) (t : Fin cfg0.N) (l : Fin 4096) : iblk m c 3 t (ix3 0 0 l)
    = m ((c : Thread nD τ).loc main_arg3) (ix2 (batch t) l) := by
  refine Eq.trans ?_ (entry_kadd m c (batch t) l)
  have he : ((cfg0.win 3).blk t).view.emb (ix3 0 0 l : S1x1x4096.Idx) = (ix3 (batch t) 0 l : S2x1x4096.Idx) := by
    have h3 := (idx t).2.2.2.1
    have hb : (batch t).val = win0_3.index t 0 := by rw [h3]; rfl
    have h1 : win0_3.index t 1 = 0 := by rw [h3]; rfl
    have h2 : win0_3.index t 2 = 0 := by rw [h3]; rfl
    generalize batch t = n at hb ⊢
    blk_ext
    all_goals omega
  exact congrArg (V m c main_call0_v6) he

/-- A block of the planes, at an index: the block is the whole array. -/
theorem read_planes (c : Dev nD) (t : Fin cfg0.N) (i : Fin 32) (e : Fin 65) : iblk m c 4 t (ix2 i e)
    = m ((c : Thread nD τ).loc main_arg4) (ix2 i e) := by
  blk_point [iblk, V, idx t]

/-- The loop the body runs carries what ten trips carry. -/
theorem fold_carried {N : ℕ} (hN : N = 10) (q : FVec Ideal S1x4096x64 .f32) (w : FVec Ideal S32x64 .f32) (b : FVec Ideal S32x1 .f32) :
    Scf.fold (fun (_ : Fin N) s => (k0_pay10 q w b s.1, k0_pay7 q w b s.1, k0_pay9 q w b s.1))
      (k0_pay4 q w b, k0_pay5, k0_pay6) = carried q w b 10 := by
  rw [Scf.fold_eq]
  refine (List.foldl_const (trip q w b) _ _).trans ?_
  rw [List.length_finRange, hN]
  rfl

/-- The output of a batch's head, of the arguments. -/
def outAt (c : Dev nD) (n : Fin 2) (h : Fin 12) (l : Fin 4096) (e : Fin 64) : EReal :=
  headOut (fun l e => m ((c : Thread nD τ).loc main_arg0) (ix4 n l h e)) (fun l e => m ((c : Thread nD τ).loc main_arg1) (ix4 n l h e))
    (fun l e => m ((c : Thread nD τ).loc main_arg2) (ix4 n l h e)) (fun j => m ((c : Thread nD τ).loc main_arg3) (ix2 n j))
    (fun a e => m ((c : Thread nD τ).loc main_arg4) (ix2 a e)) l e

/-- The array the region leaves: entry `12 n + h` is the head `h` of the batch `n`. -/
def regionOut (c : Dev nD) : FVec Ideal S24x4096x64 .f32 := fun i =>
  outAt m c ⟨(i 0).val / 12, by have h : (i 0).val < 24 := (i 0).isLt; omega⟩ ⟨(i 0).val % 12, by omega⟩ (i 1) (i 2)

/-- What the body stores at a grid point, from its blocks. -/
theorem body_at {N : ℕ} (hN : N = 10) (q k v : FVec Ideal S1x4096x64 .f32) (ka : FVec Ideal S1x1x4096 .f32) (p : FVec Ideal S32x65 .f32)
    (w : FVec Ideal S32x64 .f32) (b : FVec Ideal S32x1 .f32) (hw : ∀ i (e : Fin 64), w (ix2 i e) = p (ix2 i (⟨e, by omega⟩ : Fin 65)))
    (hb : ∀ i, b (ix2 i 0) = p (ix2 i (64 : Fin 65))) (l : Fin 4096) (e : Fin 64) :
    k0_pay1 (F := Ideal)
        (Scf.fold (fun (_ : Fin N) s => (k0_pay10 q w b s.1, k0_pay7 q w b s.1, k0_pay9 q w b s.1)) (k0_pay4 q w b, k0_pay5, k0_pay6)).2.1
        (k0_pay11 q
          (Scf.fold (fun (_ : Fin N) s => (k0_pay10 q w b s.1, k0_pay7 q w b s.1, k0_pay9 q w b s.1)) (k0_pay4 q w b, k0_pay5, k0_pay6)).2.1
          (Scf.fold (fun (_ : Fin N) s => (k0_pay10 q w b s.1, k0_pay7 q w b s.1, k0_pay9 q w b s.1)) (k0_pay4 q w b, k0_pay5, k0_pay6)).2.2)
        k ka v (ix3 0 l e)
      = headOut (fun l e => q (ix3 0 l e)) (fun l e => k (ix3 0 l e)) (fun l e => v (ix3 0 l e)) (fun j => ka (ix3 0 0 j))
          (fun a e => p (ix2 a e)) l e := by
  rw [fold_carried hN]
  have hh := hash_at q w b (fun a e => p (ix2 a e)) hw hb
  exact block_at _ q k v ka _ _ (last_member q w b _ hh 9) (last_count q w b _ hh 9) l e

theorem block_index (y : S1x4096x64.Idx) : ∃ (l : Fin 4096) (e : Fin 64), y = ix3 0 l e :=
  ⟨y 1, y 2, (eq_ix3 y).trans (by rw [show y 0 = (0 : Fin 1) from Subsingleton.elim (α := Fin 1) _ _])⟩

/-- Every grid point leaves its head's block, so the region leaves `regionOut`. -/
theorem final (c : Dev nD) : (dats m 0 c).arrAt 5 (cfgs 0).N = regionOut m c := by
  refine (dats m 0 c).arrAt_eq_of_covers 5 _ (by decide +kernel) fun t _ y => ?_
  blk_simp [idx t]
  rw [after0_5]
  obtain ⟨l, e, rfl⟩ : ∃ (l : Fin 4096) (e : Fin 64), y = (ix3 0 l e : S1x4096x64.Idx) :=
    block_index y
  have he : ((cfg0.win 5).blk t).view.emb (ix3 0 l e : S1x4096x64.Idx) = (ix3 (⟨t.val, (idx t).2.2.2.2.2.2⟩ : Fin 24) l e : S24x4096x64.Idx) := by
    blk_ext [idx t]
  refine Eq.trans ?_ (congrArg (regionOut m c) he).symm
  unfold outsAt0
  frame_out
  refine (body_at (by decide +kernel) (iblk m c 0 t) (iblk m c 1 t) (iblk m c 2 t) (iblk m c 3 t) (iblk m c 4 t) _ _ ?_ ?_ l e).trans ?_
  · intro i e
    pointwise
  · intro i
    pointwise
  · simp only [read_q, read_k, read_v, read_kadd, read_planes]
    rfl

end Cert.KernelArray
-- ==== Proof.KernelRun.lean ====
/-  The kernel after its region: the lines that follow it, and the whole run. -/
module

public import proofs.«01_k».proof.Proof.KernelArray

@[expose] public section

set_option maxRecDepth 16384

noncomputable section

namespace Cert.KernelArray

open Cert.KernelIdeal Cert.KernelIdeal.Gen Cert.Spec Cert.KernelHead
open Idealize.ShloMosaic Idealize.ShloMosaic.TcCoe Idealize.SL.Sem

variable (m : (ℓ : Loc nD τ sig) → Buf (Elt Ideal) ℓ) (ρ : Dev nD → PrngReg)

/-- The kernel's result array: entry `(n, l, h, e)` is the output of the head `h` of the batch `n`. -/
def result (c : Dev nD) : FVec Ideal S2x4096x12x64 .f32 := fun i => outAt m c (i 0) (i 2) (i 1) (i 3)

/-- The lines after the region split the heads off and put the queries before them. -/
theorem tail_lines (V : Valuation τ sig (Elt Ideal)) : StableHlo.after hostOps1 V (Proc.devRef .tc main_v0)
    = transpose S2x4096x12x64 [0, 2, 1, 3] (shapeCast S2x12x4096x64 (V (Proc.devRef .tc main_call0_v7) : FVec Ideal S24x4096x64 .f32)
        shapeCasts_S24x4096x64_S2x12x4096x64) transposes_S2x12x4096x64_S2x4096x12x64_0_2_1_3 := by
  after_results <;> rfl

/-- An entry of the result is an entry of the region's array, whose first axis runs over the pairs (batch, head). -/
theorem split_heads (x : FVec Ideal S24x4096x64 .f32) (n : Fin 2) (l : Fin 4096) (h : Fin 12) (e : Fin 64) :
    transpose S2x4096x12x64 [0, 2, 1, 3] (shapeCast S2x12x4096x64 x shapeCasts_S24x4096x64_S2x12x4096x64)
      transposes_S2x12x4096x64_S2x4096x12x64_0_2_1_3 (ix4 n l h e) = x (ix3 (⟨n.val * 12 + h.val, by omega⟩ : Fin 24) l e) := by
  pointwise

/-- The kernel's result array at the end of the run. -/
theorem tail (c : Dev nD) : Pipeline.afterTail₀ cfgs (dats m) 0 (V0 m) [hostOps1] c main_v0 = result m c := by
  have h7 : Pipeline.withArrays (cfgs 0).spec c (V0 m c) (fun w => (dats m 0 c).arrAt w (cfgs 0).N) (Proc.devRef .tc main_call0_v7)
      = regionOut m c :=
    (Pipeline.withArrays_arr (cfgs 0).spec launch0.win.arr_inj c (V0 m c) (fun w => (dats m 0 c).arrAt w (cfgs 0).N) 5).trans (final m c)
  show StableHlo.after hostOps1 _ (Proc.devRef .tc main_v0) = _
  rw [tail_lines, h7]
  funext i
  rw [eq_ix4 i]
  refine (split_heads (regionOut m c) (i 0) (i 1) (i 2) (i 3)).trans ?_
  have h0 : (i 0).val < 2 := (i 0).isLt
  have h2 : (i 2).val < 12 := (i 2).isLt
  show outAt m c ⟨((i 0).val * 12 + (i 2).val) / 12, _⟩ ⟨((i 0).val * 12 + (i 2).val) % 12, _⟩ (i 1) (i 3) = outAt m c (i 0) (i 2) (i 1) (i 3)
  congr 1
  · exact Fin.ext (show ((i 0).val * 12 + (i 2).val) / 12 = (i 0).val by omega)
  · exact Fin.ext (show ((i 0).val * 12 + (i 2).val) % 12 = (i 2).val by omega)

/-- THE KERNEL'S RUN: every weakly fair execution terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h : θ_run defs (onTc (τ := τ) (main (F := Ideal))) ⟨m, fun _ => 0, ρ⟩ (fun r => ∀ c : Dev nD,
      r.2.mem ((c.tc : Thread nD τ).loc main_v0) = result m c) := by
    run_from Gen.run_main m ρ
    exact tail m _
  exact θ_run_mono (θ_run_and h (Gen.unchanged m ρ)) fun _ h c => ⟨h.1 c, h.2 c⟩

end Cert.KernelArray
end
-- ==== Proof.Equal.lean ====
/-  The two result arrays are equal, entry by entry. -/
module

public import proofs.«01_k».proof.Defs
public import proofs.«01_k».proof.Proof.Scores
public import proofs.«01_k».proof.Proof.RefHead
public import proofs.«01_k».proof.Proof.KernelRun

@[expose] public section

noncomputable section

namespace Cert.Equal

open Cert.Spec Idealize.ShloMosaic

/-- The reference's result on arguments the precondition admits, at an index: one head's output. -/
theorem reference_at [Cert.Pre_finite_scores.Facts] (q k v : FVec Ideal ReferenceIdeal.S2x4096x12x64 .f32) (kadd : FVec Ideal ReferenceIdeal.S2x4096 .f32)
    (planes : FVec Ideal ReferenceIdeal.S32x65 .f32) (hp : Cert.Pre_finite_scores.fn (F := Ideal) q k v kadd planes = fun _ => 1#1)
    (n : Fin 2) (l : Fin 4096) (h : Fin 12) (e : Fin 64) :
    RefFn.result q k v kadd planes (ix4 n l h e) = headOut (fun l e => q (ix4 n l h e)) (fun l e => k (ix4 n l h e)) (fun l e => v (ix4 n l h e))
      (fun j => kadd (ix2 n j)) (fun a e => planes (ix2 a e)) l e := by
  obtain ⟨hq, hk, ht, hb⟩ := Scores.of_pre q k v kadd planes hp
  rw [RefHead.result_at q k v kadd planes n l h e _ _ rfl rfl]
  exact Scores.mix_eq _ _ _ _ _ _ (fun l e => hq _) (fun l e => hk _) (fun j => ht _) (hb n)

/-- The reference's result is the kernel's. -/
theorem result_eq [Cert.Pre_finite_scores.Facts] (m : (ℓ : Loc KernelIdeal.nD KernelIdeal.τ KernelIdeal.sig) → Buf (Elt Ideal) ℓ)
    (hp : Cert.Pre_KernelIdeal_finite_scores m) (c : Dev KernelIdeal.nD) :
    RefFn.result (F := Ideal) (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) = KernelArray.result m c := by
  funext i
  obtain ⟨n, l, h, e, rfl⟩ : ∃ (n : Fin 2) (l : Fin 4096) (h : Fin 12) (e : Fin 64), i = ix4 n l h e := ⟨_, _, _, _, eq_ix4 i⟩
  exact reference_at _ _ _ _ _ (hp c) n l h e

end Cert.Equal

end
-- ==== Proof.RefRun.lean ====
/-  The reference's run. @main is some host operations, one counted loop of ten trips, and some host operations after it:
    every weakly fair execution terminates, with every buffer at the fold of those operations (`run_fold`). The operation
    lists are the program's own, cut into stretches that each compute one named quantity. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches of operations -/

/-- The host operations before the loop: the three transposes and the hash bits. -/
abbrev bitsOps : List (HloOp τ sig (Elt F)) :=
  [ StableHlo.nullary main_c (fun i => lit0 (S128.rowMajor i)),
    StableHlo.nullary main_c_0 (constantI S128 1 0#1),
    StableHlo.unary main_arg0 main_v0 ((transpose S2x12x4096x64 [0, 2, 1, 3] · transposes_S2x4096x12x64_S2x12x4096x64_0_2_1_3) : (⟨S2x4096x12x64, .f32⟩ : BufTy).Contents (Elt F) → (⟨S2x12x4096x64, .f32⟩ : BufTy).Contents (Elt F)),
    StableHlo.unary main_arg1 main_v1 ((transpose S2x12x4096x64 [0, 2, 1, 3] · transposes_S2x4096x12x64_S2x12x4096x64_0_2_1_3) : (⟨S2x4096x12x64, .f32⟩ : BufTy).Contents (Elt F) → (⟨S2x12x4096x64, .f32⟩ : BufTy).Contents (Elt F)),
    StableHlo.unary main_arg2 main_v2 ((transpose S2x12x4096x64 [0, 2, 1, 3] · transposes_S2x4096x12x64_S2x12x4096x64_0_2_1_3) : (⟨S2x4096x12x64, .f32⟩ : BufTy).Contents (Elt F) → (⟨S2x12x4096x64, .f32⟩ : BufTy).Contents (Elt F)),
    StableHlo.unary main_arg4 main_v3 ((extractStridedSlice S32x64 ![0, 0] · slices_S32x65_S32x64_0_0) : (⟨S32x65, .f32⟩ : BufTy).Contents (Elt F) → (⟨S32x64, .f32⟩ : BufTy).Contents (Elt F)),
    StableHlo.binary main_v0 main_v3 main_v4 ((fun l r => Host.dotGeneral dot_S2x12x4096x64_S32x64_S2x12x4096x32_3_1_012_0_n_n none l r) : (⟨S2x12x4096x64, .f32⟩ : BufTy).Contents (Elt F) → (⟨S32x64, .f32⟩ : BufTy).Contents (Elt F) → (⟨S2x12x4096x32, .f32⟩ : BufTy).Contents (Elt F)),
    StableHlo.unary main_arg4 main_v5 ((extractStridedSlice S32x1 ![0, 64] · slices_S32x65_S32x1_0_64) : (⟨S32x65, .f32⟩ : BufTy).Contents (Elt F) → (⟨S32x1, .f32⟩ : BufTy).Contents (Elt F)),
    StableHlo.reshape main_v5 main_v6 (rfl : (.f32 : EltTy) = .f32) shapeCasts_S32x1_S32,
    StableHlo.unary main_v6 main_v7 (broadcastInDim S1x1x1x32 ![3] bcast_S32_S1x1x1x32_3 : (⟨S32, .f32⟩ : BufTy).Contents (Elt F) → (⟨S1x1x1x32, .f32⟩ : BufTy).Contents (Elt F)),
    StableHlo.unary main_v7 main_v8 (broadcastInDim S2x12x4096x32 ![0, 1, 2, 3] bcast_S1x1x1x32_S2x12x4096x32_0_1_2_3 : (⟨S1x1x1x32, .f32⟩ : BufTy).Contents (Elt F) → (⟨S2x12x4096x32, .f32⟩ : BufTy).Contents (Elt F)),
    StableHlo.binary main_v4 main_v8 main_v9 (addf : (⟨S2x12x4096x32, .f32⟩ : BufTy).Contents (Elt F) → (⟨S2x12x4096x32, .f32⟩ : BufTy).Contents (Elt F) → (⟨S2x12x4096x32, .f32⟩ : BufTy).Contents (Elt F)),
    StableHlo.nullary main_cst (constant S_ .f32 0x00000000#32),
    StableHlo.unary main_cst main_v10 (broadcastInDim S2x12x4096x32 ![] bcast_S_S2x12x4096x32 : (⟨S_, .f32⟩ : BufTy).Contents (Elt F) → (⟨S2x12x4096x32, .f32⟩ : BufTy).Contents (Elt F)),
    StableHlo.binary main_v9 main_v10 main_v11 (cmpf .ogt : (⟨S2x12x4096x32, .f32⟩ : BufTy).Contents (Elt F) → (⟨S2x12x4096x32, .f32⟩ : BufTy).Contents (Elt F) → (⟨S2x12x4096x32, .i1⟩ : BufTy).Contents (Elt F)),
    StableHlo.unary main_v11 main_v12 (uitofp .f32 : (⟨S2x12x4096x32, .i1⟩ : BufTy).Contents (Elt F) → (⟨S2x12x4096x32, .f32⟩ : BufTy).Contents (Elt F)) ]
theorem bitsOps_sub : (bitsOps : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem bitsOps_fresh : (bitsOps : List (HloOp τ sig (Elt F))).Forall fun op => op.fresh = ∅ :=
  StableHlo.forall_fresh_of_map rfl
/-- What `bitsOps` writes. -/
abbrev bitsOps_W : List (Ref sig .tc) := [main_c, main_c_0, main_v0, main_v1, main_v2, main_v3, main_v4, main_v5, main_v6, main_v7, main_v8, main_v9, main_cst, main_v10, main_v11, main_v12]
theorem bitsOps_writes : (bitsOps : List (HloOp τ sig (Elt F))).Forall fun op => op.writes ⊆ (bitsOps_W.map (Proc.devRef (τ := τ) .tc)).toFinset :=
  StableHlo.forall_writes_sub_of_map rfl

/-- The seeds of the codebook and the number of bits set in every query's hash. -/
abbrev seedOps : List (HloOp τ sig (Elt F)) :=
  [ StableHlo.nullary main_c_1 (constantI S_ 32 4096#32),
    StableHlo.unary main_c_1 main_v13 (broadcastInDim S128 ![] bcast_S_S128 : (⟨S_, .i32⟩ : BufTy).Contents (Elt F) → (⟨S128, .i32⟩ : BufTy).Contents (Elt F)),
    StableHlo.binary main_c main_v13 main_v14 (addi : (⟨S128, .i32⟩ : BufTy).Contents (Elt F) → (⟨S128, .i32⟩ : BufTy).Contents (Elt F) → (⟨S128, .i32⟩ : BufTy).Contents (Elt F)),
    StableHlo.ternary main_c_0 main_v14 main_c main_v15 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v15 main_v16 (broadcastInDim S128x1 ![0] bcast_S128_S128x1_0 : (⟨S128, .i32⟩ : BufTy).Contents (Elt F) → (⟨S128x1, .i32⟩ : BufTy).Contents (Elt F)),
    StableHlo.binary main_v12 main_v16 main_v17 ((fun x i => Host.gather gather_S2x12x4096x32_S128x1_S2x12x128x32_013_2_n_n_2_1_212132 x i) : (⟨S2x12x4096x32, .f32⟩ : BufTy).Contents (Elt F) → (⟨S128x1, .i32⟩ : BufTy).Contents (Elt F) → (⟨S2x12x128x32, .f32⟩ : BufTy).Contents (Elt F)),
    StableHlo.nullary main_cst_2 (constant S_ .f32 0x00000000#32),
    StableHlo.binary main_v12 main_cst_2 main_v18 ((fun x v => Host.reduceAdd x v reducesTo_S2x12x4096x32_S2x12x4096_d3 h_S_) : (⟨S2x12x4096x32, .f32⟩ : BufTy).Contents (Elt F) → (⟨S_, .f32⟩ : BufTy).Contents (Elt F) → (⟨S2x12x4096, .f32⟩ : BufTy).Contents (Elt F)) ]
theorem seedOps_sub : (seedOps : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub ..⟩
theorem seedOps_fresh : (seedOps : List (HloOp τ sig (Elt F))).Forall fun op => op.fresh = ∅ :=
  StableHlo.forall_fresh_of_map rfl
/-- What `seedOps` writes. -/
abbrev seedOps_W : List (Ref sig .tc) := [main_c_1, main_v13, main_v14, main_v15, main_v16, main_v17, main_cst_2, main_v18]
theorem seedOps_writes : (seedOps : List (HloOp τ sig (Elt F))).Forall fun op => op.writes ⊆ (seedOps_W.map (Proc.devRef (τ := τ) .tc)).toFinset :=
  StableHlo.forall_writes_sub_of_map rfl

/-- The loop's carried buffers at their first values. -/
abbrev startOps : List (HloOp τ sig (Elt F)) :=
  [ StableHlo.nullary main_c_3 (constantI S_ 32 0#32),
    StableHlo.unary main_c_3 main_v19 (broadcastInDim S2x12x4096 ![] bcast_S_S2x12x4096 : (⟨S_, .i32⟩ : BufTy).Contents (Elt F) → (⟨S2x12x4096, .i32⟩ : BufTy).Contents (Elt F)),
    StableHlo.nullary main_cst_4 (constant S_ .f32 0x00000000#32),
    StableHlo.unary main_cst_4 main_v20 (broadcastInDim S2x12x128 ![] bcast_S_S2x12x128 : (⟨S_, .f32⟩ : BufTy).Contents (Elt F) → (⟨S2x12x128, .f32⟩ : BufTy).Contents (Elt F)),
    StableHlo.nullary main_c_5 (constantI S_ 32 0#32),
    StableHlo.nullary main_c_6 (constantI S_ 32 0#32),
    StableHlo.unary main_v12 main_v21_0 id,
    StableHlo.unary main_v18 main_v21_1 id,
    StableHlo.unary main_c_6 main_v21_2 id,
    StableHlo.unary main_c_5 main_v21_3 id,
    StableHlo.unary main_v17 main_v21_4 id,
    StableHlo.unary main_v19 main_v21_5 id,
    StableHlo.unary main_v20 main_v21_6 id ]
theorem startOps_sub : (startOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem startOps_fresh : (startOps : List (HloOp τ sig (Elt F))).Forall fun op => op.fresh = ∅ :=
  StableHlo.forall_fresh_of_map rfl
/-- What `startOps` writes. -/
abbrev startOps_W : List (Ref sig .tc) := [main_c_3, main_v19, main_cst_4, main_v20, main_c_5, main_c_6, main_v21_0, main_v21_1, main_v21_2, main_v21_3, main_v21_4, main_v21_5, main_v21_6]
theorem startOps_writes : (startOps : List (HloOp τ sig (Elt F))).Forall fun op => op.writes ⊆ (startOps_W.map (Proc.devRef (τ := τ) .tc)).toFinset :=
  StableHlo.forall_writes_sub_of_map rfl

/-- One trip: the Hamming distances. -/
abbrev distOps : List (HloOp τ sig (Elt F)) :=
  [ StableHlo.nullary main_while0b_c_19 (constantI S_ 32 1#32),
    StableHlo.binary main_v21_3 main_while0b_c_19 main_while0b_v52 (addi : (⟨S_, .i32⟩ : BufTy).Contents (Elt F) → (⟨S_, .i32⟩ : BufTy).Contents (Elt F) → (⟨S_, .i32⟩ : BufTy).Contents (Elt F)),
    StableHlo.nullary main_while0b_cst_20 (constant S_ .f32 0x00000000#32),
    StableHlo.binary main_v21_4 main_while0b_cst_20 main_while0b_v53 ((fun x v => Host.reduceAdd x v reducesTo_S2x12x128x32_S2x12x128_d3 h_S_) : (⟨S2x12x128x32, .f32⟩ : BufTy).Contents (Elt F) → (⟨S_, .f32⟩ : BufTy).Contents (Elt F) → (⟨S2x12x128, .f32⟩ : BufTy).Contents (Elt F)),
    StableHlo.binary main_v21_0 main_v21_4 main_while0b_v54 ((fun l r => Host.dotGeneral dot_S2x12x4096x32_S2x12x128x32_S2x12x4096x128_3_3_2_2_01_01 none l r) : (⟨S2x12x4096x32, .f32⟩ : BufTy).Contents (Elt F) → (⟨S2x12x128x32, .f32⟩ : BufTy).Contents (Elt F) → (⟨S2x12x4096x128, .f32⟩ : BufTy).Contents (Elt F)),
    StableHlo.unary main_v21_1 main_while0b_v55 (broadcastInDim S2x12x4096x1 ![0, 1, 2] bcast_S2x12x4096_S2x12x4096x1_0_1_2 : (⟨S2x12x4096, .f32⟩ : BufTy).Contents (Elt F) → (⟨S2x12x4096x1, .f32⟩ : BufTy).Contents (Elt F)),
    StableHlo.unary main_while0b_v53 main_while0b_v56 (broadcastInDim S2x12x1x128 ![0, 1, 3] bcast_S2x12x128_S2x12x1x128_0_1_3 : (⟨S2x12x128, .f32⟩ : BufTy).Contents (Elt F) → (⟨S2x12x1x128, .f32⟩ : BufTy).Contents (Elt F)),
    StableHlo.unary main_while0b_v55 main_while0b_v57 (broadcastInDim S2x12x4096x128 ![0, 1, 2, 3] bcast_S2x12x4096x1_S2x12x4096x128_0_1_2_3 : (⟨S2x12x4096x1, .f32⟩ : BufTy).Contents (Elt F) → (⟨S2x12x4096x128, .f32⟩ : BufTy).Contents (Elt F)),
    StableHlo.unary main_while0b_v56 main_while0b_v58 (broadcastInDim S2x12x4096x128 ![0, 1, 2, 3] bcast_S2x12x1x128_S2x12x4096x128_0_1_2_3 : (⟨S2x12x1x128, .f32⟩ : BufTy).Contents (Elt F) → (⟨S2x12x4096x128, .f32⟩ : BufTy).Contents (Elt F)),
    StableHlo.binary main_while0b_v57 main_while0b_v58 main_while0b_v59 (addf : (⟨S2x12x4096x128, .f32⟩ : BufTy).Contents (Elt F) → (⟨S2x12x4096x128, .f32⟩ : BufTy).Contents (Elt F) → (⟨S2x12x4096x128, .f32⟩ : BufTy).Contents (Elt F)),
    StableHlo.nullary main_while0b_cst_21 (constant S_ .f32 0x40000000#32),
    StableHlo.unary main_while0b_cst_21 main_while0b_v60 (broadcastInDim S2x12x4096x128 ![] bcast_S_S2x12x4096x128 : (⟨S_, .f32⟩ : BufTy).Contents (Elt F) → (⟨S2x12x4096x128, .f32⟩ : BufTy).Contents (Elt F)),
    StableHlo.binary main_while0b_v60 main_while0b_v54 main_while0b_v61 (mulf : (⟨S2x12x4096x128, .f32⟩ : BufTy).Contents (Elt F) → (⟨S2x12x4096x128, .f32⟩ : BufTy).Contents (Elt F) → (⟨S2x12x4096x128, .f32⟩ : BufTy).Contents (Elt F)),
    StableHlo.binary main_while0b_v59 main_while0b_v61 main_while0b_v62 (subf : (⟨S2x12x4096x128, .f32⟩ : BufTy).Contents (Elt F) → (⟨S2x12x4096x128, .f32⟩ : BufTy).Contents (Elt F) → (⟨S2x12x4096x128, .f32⟩ : BufTy).Contents (Elt F)) ]
theorem distOps_sub : (distOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
theorem distOps_fresh : (distOps : List (HloOp τ sig (Elt F))).Forall fun op => op.fresh = ∅ :=
  StableHlo.forall_fresh_of_map rfl
/-- What `distOps` writes. -/
abbrev distOps_W : List (Ref sig .tc) := [main_while0b_c_19, main_while0b_v52, main_while0b_cst_20, main_while0b_v53, main_while0b_v54, main_while0b_v55, main_while0b_v56, main_while0b_v57, main_while0b_v58, main_while0b_v59, main_while0b_cst_21, main_while0b_v60, main_while0b_v61, main_while0b_v62]
theorem distOps_writes : (distOps : List (HloOp τ sig (Elt F))).Forall fun op => op.writes ⊆ (distOps_W.map (Proc.devRef (τ := τ) .tc)).toFinset :=
  StableHlo.forall_writes_sub_of_map rfl

/-- One trip: the nearest centroid of every query. -/
abbrev nearestOps : List (HloOp τ sig (Elt F)) :=
  [ StableHlo.TRef.nullary (.of main_while0b_call0_v0 : StableHlo.TRef sig ⟨S2x12x4096x128, .i32⟩) (iotaInDim S2x12x4096x128 32 3),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v62 : StableHlo.TRef sig ⟨S2x12x4096x128, .f32⟩) (.of main_while0b_call0_v0 : StableHlo.TRef sig ⟨S2x12x4096x128, .i32⟩) (.of main_while0b_call0_cst : StableHlo.TRef sig ⟨S_, .f32⟩) (.of main_while0b_call0_c : StableHlo.TRef sig ⟨S_, .i32⟩) (.of main_while0b_call0_v1_0 : StableHlo.TRef sig ⟨S2x12x4096, .f32⟩) (fun x y u v j => (Host.argReduce reducer_argmin_f32_i32 x y u v reducesTo_S2x12x4096x128_S2x12x4096_d3 h_S_ j).1),
    StableHlo.TRef.quaternary (.of main_while0b_v62 : StableHlo.TRef sig ⟨S2x12x4096x128, .f32⟩) (.of main_while0b_call0_v0 : StableHlo.TRef sig ⟨S2x12x4096x128, .i32⟩) (.of main_while0b_call0_cst : StableHlo.TRef sig ⟨S_, .f32⟩) (.of main_while0b_call0_c : StableHlo.TRef sig ⟨S_, .i32⟩) (.of main_while0b_v63 : StableHlo.TRef sig ⟨S2x12x4096, .i32⟩) (fun x y u v j => (Host.argReduce reducer_argmin_f32_i32 x y u v reducesTo_S2x12x4096x128_S2x12x4096_d3 h_S_ j).2) ]
theorem nearestOps_sub : (nearestOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem nearestOps_fresh : (nearestOps : List (HloOp τ sig (Elt F))).Forall fun op => op.fresh = ∅ :=
  StableHlo.forall_fresh_of_map rfl
/-- What `nearestOps` writes. -/
abbrev nearestOps_W : List (Ref sig .tc) := [main_while0b_call0_v0, main_while0b_call0_cst, main_while0b_call0_c, main_while0b_call0_v1_0, main_while0b_v63]
theorem nearestOps_writes : (nearestOps : List (HloOp τ sig (Elt F))).Forall fun op => op.writes ⊆ (nearestOps_W.map (Proc.devRef (τ := τ) .tc)).toFinset :=
  StableHlo.forall_writes_sub_of_map rfl

/-- One trip: the assignment as a one-hot matrix. -/
abbrev assignOps : List (HloOp τ sig (Elt F)) :=
  [ StableHlo.TRef.unary (.of main_while0b_v63 : StableHlo.TRef sig ⟨S2x12x4096, .i32⟩) (.of main_while0b_call1_v0 : StableHlo.TRef sig ⟨S2x12x4096x1, .i32⟩) (broadcastInDim S2x12x4096x1 ![0, 1, 2] bcast_S2x12x4096_S2x12x4096x1_0_1_2),
    StableHlo.TRef.nullary (.of main_while0b_call1_v1 : StableHlo.TRef sig ⟨S1x1x1x128, .i32⟩) (iotaInDim S1x1x1x128 32 3),
    StableHlo.TRef.unary (.of main_while0b_call1_v0 : StableHlo.TRef sig ⟨S2x12x4096x1, .i32⟩) (.of main_while0b_call1_v2 : StableHlo.TRef sig ⟨S2x12x4096x128, .i32⟩) (broadcastInDim S2x12x4096x128 ![0, 1, 2, 3] bcast_S2x12x4096x1_S2x12x4096x128_0_1_2_3),
    StableHlo.TRef.unary (.of main_while0b_call1_v1 : StableHlo.TRef sig ⟨S1x1x1x128, .i32⟩) (.of main_while0b_call1_v3 : StableHlo.TRef sig ⟨S2x12x4096x128, .i32⟩) (broadcastInDim S2x12x4096x128 ![0, 1, 2, 3] bcast_S1x1x1x128_S2x12x4096x128_0_1_2_3),
    StableHlo.TRef.binary (.of main_while0b_call1_v2 : StableHlo.TRef sig ⟨S2x12x4096x128, .i32⟩) (.of main_while0b_call1_v3 : StableHlo.TRef sig ⟨S2x12x4096x128, .i32⟩) (.of main_while0b_call1_v4 : StableHlo.TRef sig ⟨S2x12x4096x128, .i1⟩) (cmpi .eq),
    StableHlo.TRef.unary (.of main_while0b_call1_v4 : StableHlo.TRef sig ⟨S2x12x4096x128, .i1⟩) (.of main_while0b_v64 : StableHlo.TRef sig ⟨S2x12x4096x128, .f32⟩) (uitofp .f32) ]
theorem assignOps_sub : (assignOps : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
theorem assignOps_fresh : (assignOps : List (HloOp τ sig (Elt F))).Forall fun op => op.fresh = ∅ :=
  StableHlo.forall_fresh_of_map rfl
/-- What `assignOps` writes. -/
abbrev assignOps_W : List (Ref sig .tc) := [main_while0b_call1_v0, main_while0b_call1_v1, main_while0b_call1_v2, main_while0b_call1_v3, main_while0b_call1_v4, main_while0b_v64]
theorem assignOps_writes : (assignOps : List (HloOp τ sig (Elt F))).Forall fun op => op.writes ⊆ (assignOps_W.map (Proc.devRef (τ := τ) .tc)).toFinset :=
  StableHlo.forall_writes_sub_of_map rfl

/-- One trip: the number of queries of every cluster and the majority bits. -/
abbrev recentreOps : List (HloOp τ sig (Elt F)) :=
  [ StableHlo.nullary main_while0b_cst_22 (constant S_ .f32 0x00000000#32),
    StableHlo.binary main_while0b_v64 main_while0b_cst_22 main_while0b_v65 ((fun x v => Host.reduceAdd x v reducesTo_S2x12x4096x128_S2x12x128_d2 h_S_) : (⟨S2x12x4096x128, .f32⟩ : BufTy).Contents (Elt F) → (⟨S_, .f32⟩ : BufTy).Contents (Elt F) → (⟨S2x12x128, .f32⟩ : BufTy).Contents (Elt F)),
    StableHlo.binary main_while0b_v64 main_v21_0 main_while0b_v66 ((fun l r => Host.dotGeneral dot_S2x12x4096x128_S2x12x4096x32_S2x12x128x32_2_2_3_3_01_01 none l r) : (⟨S2x12x4096x128, .f32⟩ : BufTy).Contents (Elt F) → (⟨S2x12x4096x32, .f32⟩ : BufTy).Contents (Elt F) → (⟨S2x12x128x32, .f32⟩ : BufTy).Contents (Elt F)),
    StableHlo.nullary main_while0b_cst_23 (constant S_ .f32 0x3F800000#32),
    StableHlo.unary main_while0b_cst_23 main_while0b_v67 (broadcastInDim S2x12x128 ![] bcast_S_S2x12x128 : (⟨S_, .f32⟩ : BufTy).Contents (Elt F) → (⟨S2x12x128, .f32⟩ : BufTy).Contents (Elt F)),
    StableHlo.binary main_while0b_v65 main_while0b_v67 main_while0b_v68 (maximumf : (⟨S2x12x128, .f32⟩ : BufTy).Contents (Elt F) → (⟨S2x12x128, .f32⟩ : BufTy).Contents (Elt F) → (⟨S2x12x128, .f32⟩ : BufTy).Contents (Elt F)),
    StableHlo.unary main_while0b_v68 main_while0b_v69 (broadcastInDim S2x12x128x1 ![0, 1, 2] bcast_S2x12x128_S2x12x128x1_0_1_2 : (⟨S2x12x128, .f32⟩ : BufTy).Contents (Elt F) → (⟨S2x12x128x1, .f32⟩ : BufTy).Contents (Elt F)),
    StableHlo.unary main_while0b_v69 main_while0b_v70 (broadcastInDim S2x12x128x32 ![0, 1, 2, 3] bcast_S2x12x128x1_S2x12x128x32_0_1_2_3 : (⟨S2x12x128x1, .f32⟩ : BufTy).Contents (Elt F) → (⟨S2x12x128x32, .f32⟩ : BufTy).Contents (Elt F)),
    StableHlo.binary main_while0b_v66 main_while0b_v70 main_while0b_v71 (Host.divf : (⟨S2x12x128x32, .f32⟩ : BufTy).Contents (Elt F) → (⟨S2x12x128x32, .f32⟩ : BufTy).Contents (Elt F) → (⟨S2x12x128x32, .f32⟩ : BufTy).Contents (Elt F)),
    StableHlo.nullary main_while0b_cst_24 (constant S_ .f32 0x3F000000#32),
    StableHlo.unary main_while0b_cst_24 main_while0b_v72 (broadcastInDim S2x12x128x32 ![] bcast_S_S2x12x128x32 : (⟨S_, .f32⟩ : BufTy).Contents (Elt F) → (⟨S2x12x128x32, .f32⟩ : BufTy).Contents (Elt F)),
    StableHlo.binary main_while0b_v71 main_while0b_v72 main_while0b_v73 (cmpf .ogt : (⟨S2x12x128x32, .f32⟩ : BufTy).Contents (Elt F) → (⟨S2x12x128x32, .f32⟩ : BufTy).Contents (Elt F) → (⟨S2x12x128x32, .i1⟩ : BufTy).Contents (Elt F)),
    StableHlo.unary main_while0b_v73 main_while0b_v74 (uitofp .f32 : (⟨S2x12x128x32, .i1⟩ : BufTy).Contents (Elt F) → (⟨S2x12x128x32, .f32⟩ : BufTy).Contents (Elt F)),
    StableHlo.nullary main_while0b_cst_25 (constant S_ .f32 0x00000000#32),
    StableHlo.unary main_while0b_cst_25 main_while0b_v75 (broadcastInDim S2x12x128 ![] bcast_S_S2x12x128 : (⟨S_, .f32⟩ : BufTy).Contents (Elt F) → (⟨S2x12x128, .f32⟩ : BufTy).Contents (Elt F)),
    StableHlo.binary main_while0b_v65 main_while0b_v75 main_while0b_v76 (cmpf .ogt : (⟨S2x12x128, .f32⟩ : BufTy).Contents (Elt F) → (⟨S2x12x128, .f32⟩ : BufTy).Contents (Elt F) → (⟨S2x12x128, .i1⟩ : BufTy).Contents (Elt F)),
    StableHlo.unary main_while0b_v76 main_while0b_v77 (broadcastInDim S2x12x128x1 ![0, 1, 2] bcast_S2x12x128_S2x12x128x1_0_1_2 : (⟨S2x12x128, .i1⟩ : BufTy).Contents (Elt F) → (⟨S2x12x128x1, .i1⟩ : BufTy).Contents (Elt F)) ]
theorem recentreOps_sub : (recentreOps : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩
theorem recentreOps_fresh : (recentreOps : List (HloOp τ sig (Elt F))).Forall fun op => op.fresh = ∅ :=
  StableHlo.forall_fresh_of_map rfl
/-- What `recentreOps` writes. -/
abbrev recentreOps_W : List (Ref sig .tc) := [main_while0b_cst_22, main_while0b_v65, main_while0b_v66, main_while0b_cst_23, main_while0b_v67, main_while0b_v68, main_while0b_v69, main_while0b_v70, main_while0b_v71, main_while0b_cst_24, main_while0b_v72, main_while0b_v73, main_while0b_v74, main_while0b_cst_25, main_while0b_v75, main_while0b_v76, main_while0b_v77]
theorem recentreOps_writes : (recentreOps : List (HloOp τ sig (Elt F))).Forall fun op => op.writes ⊆ (recentreOps_W.map (Proc.devRef (τ := τ) .tc)).toFinset :=
  StableHlo.forall_writes_sub_of_map rfl

/-- One trip: an empty cluster keeps its centroid. -/
abbrev keepOps : List (HloOp τ sig (Elt F)) :=
  [ StableHlo.TRef.unary (.of main_while0b_v77 : StableHlo.TRef sig ⟨S2x12x128x1, .i1⟩) (.of main_while0b_call2_v0 : StableHlo.TRef sig ⟨S2x12x128x32, .i1⟩) (broadcastInDim S2x12x128x32 ![0, 1, 2, 3] bcast_S2x12x128x1_S2x12x128x32_0_1_2_3),
    StableHlo.TRef.ternary (.of main_while0b_call2_v0 : StableHlo.TRef sig ⟨S2x12x128x32, .i1⟩) (.of main_while0b_v74 : StableHlo.TRef sig ⟨S2x12x128x32, .f32⟩) (.of main_v21_4 : StableHlo.TRef sig ⟨S2x12x128x32, .f32⟩) (.of main_while0b_v78 : StableHlo.TRef sig ⟨S2x12x128x32, .f32⟩) select ]
theorem keepOps_sub : (keepOps : List (HloOp τ sig (Elt F))).Forall fun op => op.bufs ⊆ StableHlo.tcRefs τ sig :=
  ⟨StableHlo.unary_bufs_sub .., StableHlo.ternary_bufs_sub ..⟩
theorem keepOps_fresh : (keepOps : List (HloOp τ sig (Elt F))).Forall fun op => op.fresh = ∅ :=
  StableHlo.forall_fresh_of_map rfl
/-- What `keepOps` writes. -/
abbrev keepOps_W : List (Ref sig .tc) := [main_while0b_call2_v0, main_while0b_v78]
theorem keepOps_writes : (keepOps : List (HloOp τ sig (Elt F))).Forall fun op => op.writes ⊆ (keepOps_W.map (Proc.devRef (τ := τ) .tc)).toFinset :=
  StableHlo.forall_writes_sub_of_map rfl

/-- One trip: the counter and the carried buffers. -/
abbrev closeOps : List (HloOp τ sig (Elt F)) :=
  [ StableHlo.nullary main_while0b_c_26 (constantI S_ 32 1#32),
    StableHlo.binary main_v21_2 main_while0b_c_26 main_while0b_v79 (addi : (⟨S_, .i32⟩ : BufTy).Contents (Elt F) → (⟨S_, .i32⟩ : BufTy).Contents (Elt F) → (⟨S_, .i32⟩ : BufTy).Contents (Elt F)),
    StableHlo.unary main_while0b_v79 main_v21_2 id,
    StableHlo.unary main_while0b_v52 main_v21_3 id,
    StableHlo.unary main_while0b_v78 main_v21_4 id,
    StableHlo.unary main_while0b_v63 main_v21_5 id,
    StableHlo.unary main_while0b_v65 main_v21_6 id ]
theorem closeOps_sub : (closeOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem closeOps_fresh : (closeOps : List (HloOp τ sig (Elt F))).Forall fun op => op.fresh = ∅ :=
  StableHlo.forall_fresh_of_map rfl
/-- What `closeOps` writes. -/
abbrev closeOps_W : List (Ref sig .tc) := [main_while0b_c_26, main_while0b_v79, main_v21_2, main_v21_3, main_v21_4, main_v21_5, main_v21_6]
theorem closeOps_writes : (closeOps : List (HloOp τ sig (Elt F))).Forall fun op => op.writes ⊆ (closeOps_W.map (Proc.devRef (τ := τ) .tc)).toFinset :=
  StableHlo.forall_writes_sub_of_map rfl

/-- After the loop: the last assignment as a one-hot matrix. -/
abbrev groupOps : List (HloOp τ sig (Elt F)) :=
  [ StableHlo.TRef.unary (.of main_v21_5 : StableHlo.TRef sig ⟨S2x12x4096, .i32⟩) (.of main_call3_v0 : StableHlo.TRef sig ⟨S2x12x4096x1, .i32⟩) (broadcastInDim S2x12x4096x1 ![0, 1, 2] bcast_S2x12x4096_S2x12x4096x1_0_1_2),
    StableHlo.TRef.nullary (.of main_call3_v1 : StableHlo.TRef sig ⟨S1x1x1x128, .i32⟩) (iotaInDim S1x1x1x128 32 3),
    StableHlo.TRef.unary (.of main_call3_v0 : StableHlo.TRef sig ⟨S2x12x4096x1, .i32⟩) (.of main_call3_v2 : StableHlo.TRef sig ⟨S2x12x4096x128, .i32⟩) (broadcastInDim S2x12x4096x128 ![0, 1, 2, 3] bcast_S2x12x4096x1_S2x12x4096x128_0_1_2_3),
    StableHlo.TRef.unary (.of main_call3_v1 : StableHlo.TRef sig ⟨S1x1x1x128, .i32⟩) (.of main_call3_v3 : StableHlo.TRef sig ⟨S2x12x4096x128, .i32⟩) (broadcastInDim S2x12x4096x128 ![0, 1, 2, 3] bcast_S1x1x1x128_S2x12x4096x128_0_1_2_3),
    StableHlo.TRef.binary (.of main_call3_v2 : StableHlo.TRef sig ⟨S2x12x4096x128, .i32⟩) (.of main_call3_v3 : StableHlo.TRef sig ⟨S2x12x4096x128, .i32⟩) (.of main_call3_v4 : StableHlo.TRef sig ⟨S2x12x4096x128, .i1⟩) (cmpi .eq),
    StableHlo.TRef.unary (.of main_call3_v4 : StableHlo.TRef sig ⟨S2x12x4096x128, .i1⟩) (.of main_v22 : StableHlo.TRef sig ⟨S2x12x4096x128, .f32⟩) (uitofp .f32) ]
theorem groupOps_sub : (groupOps : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
theorem groupOps_fresh : (groupOps : List (HloOp τ sig (Elt F))).Forall fun op => op.fresh = ∅ :=
  StableHlo.forall_fresh_of_map rfl
/-- What `groupOps` writes. -/
abbrev groupOps_W : List (Ref sig .tc) := [main_call3_v0, main_call3_v1, main_call3_v2, main_call3_v3, main_call3_v4, main_v22]
theorem groupOps_writes : (groupOps : List (HloOp τ sig (Elt F))).Forall fun op => op.writes ⊆ (groupOps_W.map (Proc.devRef (τ := τ) .tc)).toFinset :=
  StableHlo.forall_writes_sub_of_map rfl

/-- After the loop: the mean query of every cluster. -/
abbrev meanOps : List (HloOp τ sig (Elt F)) :=
  [ StableHlo.nullary main_cst_7 (constant S_ .f32 0x3F800000#32),
    StableHlo.unary main_cst_7 main_v23 (broadcastInDim S2x12x128 ![] bcast_S_S2x12x128 : (⟨S_, .f32⟩ : BufTy).Contents (Elt F) → (⟨S2x12x128, .f32⟩ : BufTy).Contents (Elt F)),
    StableHlo.binary main_v21_6 main_v23 main_v24 (maximumf : (⟨S2x12x128, .f32⟩ : BufTy).Contents (Elt F) → (⟨S2x12x128, .f32⟩ : BufTy).Contents (Elt F) → (⟨S2x12x128, .f32⟩ : BufTy).Contents (Elt F)),
    StableHlo.nullary main_cst_8 (constant S_ .f32 0x3F800000#32),
    StableHlo.unary main_cst_8 main_v25 (broadcastInDim S2x12x128 ![] bcast_S_S2x12x128 : (⟨S_, .f32⟩ : BufTy).Contents (Elt F) → (⟨S2x12x128, .f32⟩ : BufTy).Contents (Elt F)),
    StableHlo.binary main_v25 main_v24 main_v26 (Host.divf : (⟨S2x12x128, .f32⟩ : BufTy).Contents (Elt F) → (⟨S2x12x128, .f32⟩ : BufTy).Contents (Elt F) → (⟨S2x12x128, .f32⟩ : BufTy).Contents (Elt F)),
    StableHlo.binary main_v22 main_v0 main_v27 ((fun l r => Host.dotGeneral dot_S2x12x4096x128_S2x12x4096x64_S2x12x128x64_2_2_3_3_01_01 none l r) : (⟨S2x12x4096x128, .f32⟩ : BufTy).Contents (Elt F) → (⟨S2x12x4096x64, .f32⟩ : BufTy).Contents (Elt F) → (⟨S2x12x128x64, .f32⟩ : BufTy).Contents (Elt F)),
    StableHlo.unary main_v26 main_v28 (broadcastInDim S2x12x128x1 ![0, 1, 2] bcast_S2x12x128_S2x12x128x1_0_1_2 : (⟨S2x12x128, .f32⟩ : BufTy).Contents (Elt F) → (⟨S2x12x128x1, .f32⟩ : BufTy).Contents (Elt F)),
    StableHlo.unary main_v28 main_v29 (broadcastInDim S2x12x128x64 ![0, 1, 2, 3] bcast_S2x12x128x1_S2x12x128x64_0_1_2_3 : (⟨S2x12x128x1, .f32⟩ : BufTy).Contents (Elt F) → (⟨S2x12x128x64, .f32⟩ : BufTy).Contents (Elt F)),
    StableHlo.binary main_v27 main_v29 main_v30 (mulf : (⟨S2x12x128x64, .f32⟩ : BufTy).Contents (Elt F) → (⟨S2x12x128x64, .f32⟩ : BufTy).Contents (Elt F) → (⟨S2x12x128x64, .f32⟩ : BufTy).Contents (Elt F)) ]
theorem meanOps_sub : (meanOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
theorem meanOps_fresh : (meanOps : List (HloOp τ sig (Elt F))).Forall fun op => op.fresh = ∅ :=
  StableHlo.forall_fresh_of_map rfl
/-- What `meanOps` writes. -/
abbrev meanOps_W : List (Ref sig .tc) := [main_cst_7, main_v23, main_v24, main_cst_8, main_v25, main_v26, main_v27, main_v28, main_v29, main_v30]
theorem meanOps_writes : (meanOps : List (HloOp τ sig (Elt F))).Forall fun op => op.writes ⊆ (meanOps_W.map (Proc.devRef (τ := τ) .tc)).toFinset :=
  StableHlo.forall_writes_sub_of_map rfl

/-- After the loop: the scaled scores of the mean queries. -/
abbrev scoreOps : List (HloOp τ sig (Elt F)) :=
  [ StableHlo.binary main_v30 main_v1 main_v31 ((fun l r => Host.dotGeneral dot_S2x12x128x64_S2x12x4096x64_S2x12x128x4096_3_3_2_2_01_01 none l r) : (⟨S2x12x128x64, .f32⟩ : BufTy).Contents (Elt F) → (⟨S2x12x4096x64, .f32⟩ : BufTy).Contents (Elt F) → (⟨S2x12x128x4096, .f32⟩ : BufTy).Contents (Elt F)),
    StableHlo.unary main_arg3 main_v32 (broadcastInDim S2x1x1x4096 ![0, 3] bcast_S2x4096_S2x1x1x4096_0_3 : (⟨S2x4096, .f32⟩ : BufTy).Contents (Elt F) → (⟨S2x1x1x4096, .f32⟩ : BufTy).Contents (Elt F)),
    StableHlo.unary main_v32 main_v33 (broadcastInDim S2x12x128x4096 ![0, 1, 2, 3] bcast_S2x1x1x4096_S2x12x128x4096_0_1_2_3 : (⟨S2x1x1x4096, .f32⟩ : BufTy).Contents (Elt F) → (⟨S2x12x128x4096, .f32⟩ : BufTy).Contents (Elt F)),
    StableHlo.binary main_v31 main_v33 main_v34 (addf : (⟨S2x12x128x4096, .f32⟩ : BufTy).Contents (Elt F) → (⟨S2x12x128x4096, .f32⟩ : BufTy).Contents (Elt F) → (⟨S2x12x128x4096, .f32⟩ : BufTy).Contents (Elt F)),
    StableHlo.nullary main_cst_9 (constant S_ .f32 0x3E000000#32),
    StableHlo.unary main_cst_9 main_v35 (broadcastInDim S2x12x128x4096 ![] bcast_S_S2x12x128x4096 : (⟨S_, .f32⟩ : BufTy).Contents (Elt F) → (⟨S2x12x128x4096, .f32⟩ : BufTy).Contents (Elt F)),
    StableHlo.binary main_v35 main_v34 main_v36 (mulf : (⟨S2x12x128x4096, .f32⟩ : BufTy).Contents (Elt F) → (⟨S2x12x128x4096, .f32⟩ : BufTy).Contents (Elt F) → (⟨S2x12x128x4096, .f32⟩ : BufTy).Contents (Elt F)) ]
theorem scoreOps_sub : (scoreOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem scoreOps_fresh : (scoreOps : List (HloOp τ sig (Elt F))).Forall fun op => op.fresh = ∅ :=
  StableHlo.forall_fresh_of_map rfl
/-- What `scoreOps` writes. -/
abbrev scoreOps_W : List (Ref sig .tc) := [main_v31, main_v32, main_v33, main_v34, main_cst_9, main_v35, main_v36]
theorem scoreOps_writes : (scoreOps : List (HloOp τ sig (Elt F))).Forall fun op => op.writes ⊆ (scoreOps_W.map (Proc.devRef (τ := τ) .tc)).toFinset :=
  StableHlo.forall_writes_sub_of_map rfl

/-- After the loop: the largest score of every cluster, first half. -/
abbrev topOps : List (HloOp τ sig (Elt F)) :=
  [ StableHlo.nullary main_cst_10 (constant S_ .f32 0xFF800000#32),
    StableHlo.binary main_v36 main_cst_10 main_v37 ((fun x v => Host.reduce FloatOps.maximumf x v reducesTo_S2x12x128x4096_S2x12x128_d3 h_S_) : (⟨S2x12x128x4096, .f32⟩ : BufTy).Contents (Elt F) → (⟨S_, .f32⟩ : BufTy).Contents (Elt F) → (⟨S2x12x128, .f32⟩ : BufTy).Contents (Elt F)),
    StableHlo.nullary main_cst_11 (constant S_ .f32 0xFF800000#32),
    StableHlo.unary main_cst_11 main_v38 (broadcastInDim S2x12x128 ![] bcast_S_S2x12x128 : (⟨S_, .f32⟩ : BufTy).Contents (Elt F) → (⟨S2x12x128, .f32⟩ : BufTy).Contents (Elt F)) ]
theorem topOps_sub : (topOps : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub ..⟩
theorem topOps_fresh : (topOps : List (HloOp τ sig (Elt F))).Forall fun op => op.fresh = ∅ :=
  StableHlo.forall_fresh_of_map rfl
/-- What `topOps` writes. -/
abbrev topOps_W : List (Ref sig .tc) := [main_cst_10, main_v37, main_cst_11, main_v38]
theorem topOps_writes : (topOps : List (HloOp τ sig (Elt F))).Forall fun op => op.writes ⊆ (topOps_W.map (Proc.devRef (τ := τ) .tc)).toFinset :=
  StableHlo.forall_writes_sub_of_map rfl

/-- After the loop: the softmax of the scores. -/
abbrev softOps : List (HloOp τ sig (Elt F)) :=
  [ StableHlo.binary main_v38 main_v37 main_v39 (maximumf : (⟨S2x12x128, .f32⟩ : BufTy).Contents (Elt F) → (⟨S2x12x128, .f32⟩ : BufTy).Contents (Elt F) → (⟨S2x12x128, .f32⟩ : BufTy).Contents (Elt F)),
    StableHlo.unary main_v39 main_v40 (broadcastInDim S2x12x128x1 ![0, 1, 2] bcast_S2x12x128_S2x12x128x1_0_1_2 : (⟨S2x12x128, .f32⟩ : BufTy).Contents (Elt F) → (⟨S2x12x128x1, .f32⟩ : BufTy).Contents (Elt F)),
    StableHlo.unary main_v40 main_v41 (broadcastInDim S2x12x128x4096 ![0, 1, 2, 3] bcast_S2x12x128x1_S2x12x128x4096_0_1_2_3 : (⟨S2x12x128x1, .f32⟩ : BufTy).Contents (Elt F) → (⟨S2x12x128x4096, .f32⟩ : BufTy).Contents (Elt F)),
    StableHlo.binary main_v36 main_v41 main_v42 (subf : (⟨S2x12x128x4096, .f32⟩ : BufTy).Contents (Elt F) → (⟨S2x12x128x4096, .f32⟩ : BufTy).Contents (Elt F) → (⟨S2x12x128x4096, .f32⟩ : BufTy).Contents (Elt F)),
    StableHlo.unary main_v42 main_v43 (Host.exp : (⟨S2x12x128x4096, .f32⟩ : BufTy).Contents (Elt F) → (⟨S2x12x128x4096, .f32⟩ : BufTy).Contents (Elt F)),
    StableHlo.nullary main_cst_12 (constant S_ .f32 0x00000000#32),
    StableHlo.binary main_v43 main_cst_12 main_v44 ((fun x v => Host.reduceAdd x v reducesTo_S2x12x128x4096_S2x12x128_d3 h_S_) : (⟨S2x12x128x4096, .f32⟩ : BufTy).Contents (Elt F) → (⟨S_, .f32⟩ : BufTy).Contents (Elt F) → (⟨S2x12x128, .f32⟩ : BufTy).Contents (Elt F)),
    StableHlo.unary main_v44 main_v45 (broadcastInDim S2x12x128x1 ![0, 1, 2] bcast_S2x12x128_S2x12x128x1_0_1_2 : (⟨S2x12x128, .f32⟩ : BufTy).Contents (Elt F) → (⟨S2x12x128x1, .f32⟩ : BufTy).Contents (Elt F)),
    StableHlo.unary main_v45 main_v46 (broadcastInDim S2x12x128x4096 ![0, 1, 2, 3] bcast_S2x12x128x1_S2x12x128x4096_0_1_2_3 : (⟨S2x12x128x1, .f32⟩ : BufTy).Contents (Elt F) → (⟨S2x12x128x4096, .f32⟩ : BufTy).Contents (Elt F)),
    StableHlo.binary main_v43 main_v46 main_v47 (Host.divf : (⟨S2x12x128x4096, .f32⟩ : BufTy).Contents (Elt F) → (⟨S2x12x128x4096, .f32⟩ : BufTy).Contents (Elt F) → (⟨S2x12x128x4096, .f32⟩ : BufTy).Contents (Elt F)) ]
theorem softOps_sub : (softOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
theorem softOps_fresh : (softOps : List (HloOp τ sig (Elt F))).Forall fun op => op.fresh = ∅ :=
  StableHlo.forall_fresh_of_map rfl
/-- What `softOps` writes. -/
abbrev softOps_W : List (Ref sig .tc) := [main_v39, main_v40, main_v41, main_v42, main_v43, main_cst_12, main_v44, main_v45, main_v46, main_v47]
theorem softOps_writes : (softOps : List (HloOp τ sig (Elt F))).Forall fun op => op.writes ⊆ (softOps_W.map (Proc.devRef (τ := τ) .tc)).toFinset :=
  StableHlo.forall_writes_sub_of_map rfl

/-- After the loop: the attended values of every cluster. -/
abbrev mixOps : List (HloOp τ sig (Elt F)) :=
  [ StableHlo.binary main_v47 main_v2 main_v48 ((fun l r => Host.dotGeneral dot_S2x12x128x4096_S2x12x4096x64_S2x12x128x64_3_2_2_3_01_01 none l r) : (⟨S2x12x128x4096, .f32⟩ : BufTy).Contents (Elt F) → (⟨S2x12x4096x64, .f32⟩ : BufTy).Contents (Elt F) → (⟨S2x12x128x64, .f32⟩ : BufTy).Contents (Elt F)),
    StableHlo.unary main_v21_5 main_v49 (broadcastInDim S2x12x4096x1 ![0, 1, 2] bcast_S2x12x4096_S2x12x4096x1_0_1_2 : (⟨S2x12x4096, .i32⟩ : BufTy).Contents (Elt F) → (⟨S2x12x4096x1, .i32⟩ : BufTy).Contents (Elt F)) ]
theorem mixOps_sub : (mixOps : List (HloOp τ sig (Elt F))).Forall fun op => op.bufs ⊆ StableHlo.tcRefs τ sig :=
  ⟨StableHlo.binary_bufs_sub .., StableHlo.unary_bufs_sub ..⟩
theorem mixOps_fresh : (mixOps : List (HloOp τ sig (Elt F))).Forall fun op => op.fresh = ∅ :=
  StableHlo.forall_fresh_of_map rfl
/-- What `mixOps` writes. -/
abbrev mixOps_W : List (Ref sig .tc) := [main_v48, main_v49]
theorem mixOps_writes : (mixOps : List (HloOp τ sig (Elt F))).Forall fun op => op.writes ⊆ (mixOps_W.map (Proc.devRef (τ := τ) .tc)).toFinset :=
  StableHlo.forall_writes_sub_of_map rfl

/-- After the loop: every query takes the row of its cluster. -/
abbrev takeOps : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S2x12x4096x1, .i32⟩) (broadcastInDim S2x12x4096x1 ![] bcast_S_S2x12x4096x1),
    StableHlo.TRef.binary (.of main_v49 : StableHlo.TRef sig ⟨S2x12x4096x1, .i32⟩) (.of main_call4_v0 : StableHlo.TRef sig ⟨S2x12x4096x1, .i32⟩) (.of main_call4_v1 : StableHlo.TRef sig ⟨S2x12x4096x1, .i1⟩) (cmpi .slt),
    StableHlo.TRef.nullary (.of main_call4_c_0 : StableHlo.TRef sig ⟨S_, .i32⟩) (constantI S_ 32 128#32),
    StableHlo.TRef.unary (.of main_call4_c_0 : StableHlo.TRef sig ⟨S_, .i32⟩) (.of main_call4_v2 : StableHlo.TRef sig ⟨S2x12x4096x1, .i32⟩) (broadcastInDim S2x12x4096x1 ![] bcast_S_S2x12x4096x1),
    StableHlo.TRef.binary (.of main_v49 : StableHlo.TRef sig ⟨S2x12x4096x1, .i32⟩) (.of main_call4_v2 : StableHlo.TRef sig ⟨S2x12x4096x1, .i32⟩) (.of main_call4_v3 : StableHlo.TRef sig ⟨S2x12x4096x1, .i32⟩) addi,
    StableHlo.TRef.ternary (.of main_call4_v1 : StableHlo.TRef sig ⟨S2x12x4096x1, .i1⟩) (.of main_call4_v3 : StableHlo.TRef sig ⟨S2x12x4096x1, .i32⟩) (.of main_v49 : StableHlo.TRef sig ⟨S2x12x4096x1, .i32⟩) (.of main_call4_v4 : StableHlo.TRef sig ⟨S2x12x4096x1, .i32⟩) select,
    StableHlo.TRef.nullary (.of main_call4_c_1 : StableHlo.TRef sig ⟨S1, .i32⟩) (constantI S1 32 127#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v5 : StableHlo.TRef sig ⟨S2x12x4096x1, .i32⟩) (broadcastInDim S2x12x4096x1 ![] bcast_S_S2x12x4096x1),
    StableHlo.TRef.binary (.of main_call4_v4 : StableHlo.TRef sig ⟨S2x12x4096x1, .i32⟩) (.of main_call4_v5 : StableHlo.TRef sig ⟨S2x12x4096x1, .i32⟩) (.of main_call4_v6 : StableHlo.TRef sig ⟨S2x12x4096x1, .i1⟩) (cmpi .sge),
    StableHlo.TRef.unary (.of main_call4_c_1 : StableHlo.TRef sig ⟨S1, .i32⟩) (.of main_call4_v7 : StableHlo.TRef sig ⟨S1x1x1x1, .i32⟩) (broadcastInDim S1x1x1x1 ![3] bcast_S1_S1x1x1x1_3),
    StableHlo.TRef.unary (.of main_call4_v7 : StableHlo.TRef sig ⟨S1x1x1x1, .i32⟩) (.of main_call4_v8 : StableHlo.TRef sig ⟨S2x12x4096x1, .i32⟩) (broadcastInDim S2x12x4096x1 ![0, 1, 2, 3] bcast_S1x1x1x1_S2x12x4096x1_0_1_2_3),
    StableHlo.TRef.binary (.of main_call4_v4 : StableHlo.TRef sig ⟨S2x12x4096x1, .i32⟩) (.of main_call4_v8 : StableHlo.TRef sig ⟨S2x12x4096x1, .i32⟩) (.of main_call4_v9 : StableHlo.TRef sig ⟨S2x12x4096x1, .i1⟩) (cmpi .sle),
    StableHlo.TRef.binary (.of main_call4_v6 : StableHlo.TRef sig ⟨S2x12x4096x1, .i1⟩) (.of main_call4_v9 : StableHlo.TRef sig ⟨S2x12x4096x1, .i1⟩) (.of main_call4_v10 : StableHlo.TRef sig ⟨S2x12x4096x1, .i1⟩) andi,
    StableHlo.TRef.nullary (.of main_call4_c_3 : StableHlo.TRef sig ⟨S_, .i1⟩) (constantI S_ 1 1#1),
    StableHlo.TRef.binary (.of main_call4_v10 : StableHlo.TRef sig ⟨S2x12x4096x1, .i1⟩) (.of main_call4_c_3 : StableHlo.TRef sig ⟨S_, .i1⟩) (.of main_call4_v11 : StableHlo.TRef sig ⟨S2x12x4096, .i1⟩) (fun x v => Host.reduce IntOp.andi x v reducesTo_S2x12x4096x1_S2x12x4096_d3 h_S_),
    StableHlo.TRef.binary (.of main_v48 : StableHlo.TRef sig ⟨S2x12x128x64, .f32⟩) (.of main_call4_v4 : StableHlo.TRef sig ⟨S2x12x4096x1, .i32⟩) (.of main_call4_v12 : StableHlo.TRef sig ⟨S2x12x4096x64, .f32⟩) (fun x i => Host.gather gather_S2x12x128x64_S2x12x4096x1_S2x12x4096x64_3_2_01_01_2_3_11164 x i),
    StableHlo.TRef.unary (.of main_call4_v11 : StableHlo.TRef sig ⟨S2x12x4096, .i1⟩) (.of main_call4_v13 : StableHlo.TRef sig ⟨S2x12x4096x64, .i1⟩) (broadcastInDim S2x12x4096x64 ![0, 1, 2] bcast_S2x12x4096_S2x12x4096x64_0_1_2),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S2x12x4096x64, .f32⟩) (broadcastInDim S2x12x4096x64 ![] bcast_S_S2x12x4096x64),
    StableHlo.TRef.ternary (.of main_call4_v13 : StableHlo.TRef sig ⟨S2x12x4096x64, .i1⟩) (.of main_call4_v12 : StableHlo.TRef sig ⟨S2x12x4096x64, .f32⟩) (.of main_call4_v14 : StableHlo.TRef sig ⟨S2x12x4096x64, .f32⟩) (.of main_v50 : StableHlo.TRef sig ⟨S2x12x4096x64, .f32⟩) select ]
theorem takeOps_sub : (takeOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem takeOps_fresh : (takeOps : List (HloOp τ sig (Elt F))).Forall fun op => op.fresh = ∅ :=
  StableHlo.forall_fresh_of_map rfl
/-- What `takeOps` writes. -/
abbrev takeOps_W : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v50]
theorem takeOps_writes : (takeOps : List (HloOp τ sig (Elt F))).Forall fun op => op.writes ⊆ (takeOps_W.map (Proc.devRef (τ := τ) .tc)).toFinset :=
  StableHlo.forall_writes_sub_of_map rfl

/-- After the loop: the result's transpose. -/
abbrev outOps : List (HloOp τ sig (Elt F)) :=
  [ StableHlo.unary main_v50 main_v51 ((transpose S2x4096x12x64 [0, 2, 1, 3] · transposes_S2x12x4096x64_S2x4096x12x64_0_2_1_3) : (⟨S2x12x4096x64, .f32⟩ : BufTy).Contents (Elt F) → (⟨S2x4096x12x64, .f32⟩ : BufTy).Contents (Elt F)) ]
theorem outOps_sub : (outOps : List (HloOp τ sig (Elt F))).Forall fun op => op.bufs ⊆ StableHlo.tcRefs τ sig :=
  StableHlo.unary_bufs_sub ..
theorem outOps_fresh : (outOps : List (HloOp τ sig (Elt F))).Forall fun op => op.fresh = ∅ :=
  StableHlo.forall_fresh_of_map rfl
/-- What `outOps` writes. -/
abbrev outOps_W : List (Ref sig .tc) := [main_v51]
theorem outOps_writes : (outOps : List (HloOp τ sig (Elt F))).Forall fun op => op.writes ⊆ (outOps_W.map (Proc.devRef (τ := τ) .tc)).toFinset :=
  StableHlo.forall_writes_sub_of_map rfl

/-- The condition: the bound, and the trip counter compared with it. -/
abbrev condOps : List (HloOp τ sig (Elt F)) :=
  [ StableHlo.nullary main_while0c_c_19 (constantI S_ 32 10#32),
    StableHlo.binary main_v21_2 main_while0c_c_19 main_while0c_v52 (cmpi .slt) ]
theorem condOps_sub : (condOps : List (HloOp τ sig (Elt F))).Forall fun op => op.bufs ⊆ StableHlo.tcRefs τ sig :=
  ⟨StableHlo.nullary_bufs_sub .., StableHlo.binary_bufs_sub ..⟩
theorem condOps_fresh : (condOps : List (HloOp τ sig (Elt F))).Forall fun op => op.fresh = ∅ :=
  StableHlo.forall_fresh_of_map rfl
/-- What `condOps` writes. -/
abbrev condOps_W : List (Ref sig .tc) := [main_while0c_c_19, main_while0c_v52]
theorem condOps_writes : (condOps : List (HloOp τ sig (Elt F))).Forall fun op => op.writes ⊆ (condOps_W.map (Proc.devRef (τ := τ) .tc)).toFinset :=
  StableHlo.forall_writes_sub_of_map rfl

/-! ## The program is the chain of its stretches -/

/-- The first window of @main. -/
theorem main_part0_chain (c : Dev nD) : main_part0 (F := F) c = (Pipeline.chainK
  [ StableHlo.seq bitsOps, StableHlo.seq seedOps, StableHlo.seq startOps, HostLoop.enter 0, StableHlo.seq groupOps, StableHlo.seq meanOps, StableHlo.seq scoreOps ]
  (StableHlo.seq topOps) : Prog (TpuEff nD τ sig (Elt F) (HostLoop.Sig (Pipeline.Sig Λ₀ (Fin 0) fun p => (pcfgs (F := F) p).Adm) 1) .tc) PUnit) := by
  rewrite [StableHlo.chainK_seq_cons, StableHlo.chainK_seq_cons, StableHlo.chainK_seq_cons, Pipeline.chainK_cons, Pipeline.chainK_cons, StableHlo.chainK_seq_cons, StableHlo.chainK_seq_cons]
  chain_rfl

/-- The second window of @main. -/
theorem main_part1_chain (c : Dev nD) : main_part1 (F := F) c = (Pipeline.chain
  [ StableHlo.seq softOps, StableHlo.seq mixOps, StableHlo.seq takeOps, StableHlo.seq outOps ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, Pipeline.chain_cons, StableHlo.chain_seq_cons]
  chain_rfl

/-- @main is its stretches in order, with the loop between. -/
theorem main_chain (c : Dev nD) : main (F := F) c = (Pipeline.chain
  [ StableHlo.seq bitsOps, StableHlo.seq seedOps, StableHlo.seq startOps, HostLoop.enter 0, StableHlo.seq groupOps, StableHlo.seq meanOps, StableHlo.seq scoreOps,
    StableHlo.seq topOps, StableHlo.seq softOps, StableHlo.seq mixOps, StableHlo.seq takeOps, StableHlo.seq outOps ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- The loop's body is its stretches in order. -/
theorem body_chain : main_while0_body (F := F) = (Pipeline.chain
  [ StableHlo.seq distOps, StableHlo.seq nearestOps, StableHlo.seq assignOps, StableHlo.seq recentreOps, StableHlo.seq keepOps, StableHlo.seq closeOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons]
  chain_rfl

/-- The stretches before the loop, of one trip, and after the loop. -/
abbrev preI : List (List (HloOp τ sig (Elt F))) := [bitsOps, seedOps, startOps]
abbrev bodyI : List (List (HloOp τ sig (Elt F))) := [distOps, nearestOps, assignOps, recentreOps, keepOps, closeOps]
abbrev postI : List (List (HloOp τ sig (Elt F))) := [groupOps, meanOps, scoreOps, topOps, softOps, mixOps, takeOps, outOps]

theorem preI_plain : Plain (preI (F := F)) := .cons bitsOps_sub (hf := List.forall_iff_forall_mem.mp bitsOps_fresh) (.cons seedOps_sub (hf := List.forall_iff_forall_mem.mp seedOps_fresh) (.cons startOps_sub (hf := List.forall_iff_forall_mem.mp startOps_fresh) (.nil)))
theorem bodyI_plain : Plain (bodyI (F := F)) := .cons distOps_sub (hf := List.forall_iff_forall_mem.mp distOps_fresh) (.cons nearestOps_sub (hf := List.forall_iff_forall_mem.mp nearestOps_fresh) (.cons assignOps_sub (hf := List.forall_iff_forall_mem.mp assignOps_fresh) (.cons recentreOps_sub (hf := List.forall_iff_forall_mem.mp recentreOps_fresh) (.cons keepOps_sub (hf := List.forall_iff_forall_mem.mp keepOps_fresh) (.cons closeOps_sub (hf := List.forall_iff_forall_mem.mp closeOps_fresh) (.nil))))))
theorem postI_plain : Plain (postI (F := F)) := .cons groupOps_sub (hf := List.forall_iff_forall_mem.mp groupOps_fresh) (.cons meanOps_sub (hf := List.forall_iff_forall_mem.mp meanOps_fresh) (.cons scoreOps_sub (hf := List.forall_iff_forall_mem.mp scoreOps_fresh) (.cons topOps_sub (hf := List.forall_iff_forall_mem.mp topOps_fresh) (.cons softOps_sub (hf := List.forall_iff_forall_mem.mp softOps_fresh) (.cons mixOps_sub (hf := List.forall_iff_forall_mem.mp mixOps_fresh) (.cons takeOps_sub (hf := List.forall_iff_forall_mem.mp takeOps_fresh) (.cons outOps_sub (hf := List.forall_iff_forall_mem.mp outOps_fresh) (.nil))))))))

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The last stretch of a trip leaves the counter one step on. -/
theorem counter_step (X : Valuation τ sig (Elt F)) :
    after closeOps X (Proc.devRef .tc main_v21_2) = addi (X (Proc.devRef .tc main_v21_2)) (constantI S_ 32 1#32) := by
  after_results
  rfl

/-- The counter starts at zero. -/
theorem counter_entry (c : Dev nD) : entryContents preI m c (Proc.devRef .tc main_v21_2) = fun _ => (0#32 : BitVec 32) := by
  simp only [entryContents, afterL_cons, afterL_nil]
  after_reads_simp
  rfl

/-- Before the `k`-th condition the counter is `k`. -/
theorem counter_at (c : Dev nD) : ∀ k, atK m k c (Proc.devRef .tc main_v21_2) = fun _ => Scf.iv 0#32 1#32 k
  | 0 => by rw [show atK m 0 c = entryContents preI m c from rfl, counter_entry, Scf.iv_zero]
  | k + 1 => by
    rw [show atK m (k + 1) c = afterL bodyI (after condOps (atK m k c)) from rfl]
    simp only [afterL_cons, afterL_nil]
    rw [counter_step, after_of_writes_sub keepOps _ keepOps_writes (by decide +kernel),
      after_of_writes_sub recentreOps _ recentreOps_writes (by decide +kernel),
      after_of_writes_sub assignOps _ assignOps_writes (by decide +kernel),
      after_of_writes_sub nearestOps _ nearestOps_writes (by decide +kernel),
      after_of_writes_sub distOps _ distOps_writes (by decide +kernel),
      after_of_writes_sub condOps _ condOps_writes (by decide +kernel), counter_at c k, Scf.iv_succ]
    rfl

set_option backward.isDefEq.respectTransparency.types false in
/-- The condition, run with every buffer at the fold, says whether the counter is below ten. -/
theorem cond_spec : CondSpec (pcfgs (F := F)) defs₀ loops (main_while0_cond (F := F)) condOps bodyI (entryContents preI m) 10 := by
  intro k hk c bd
  have hctr := counter_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v21_2 HostLoop.idx0)
        (HloOp.result _ (atK m k c) main_while0c_c_19 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
/-- From any memory with zero counters, every weakly fair execution of @main terminates with every buffer at the fold of
    the operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 10 m c (Proc.devRef .tc b)) :=
  run_loop (pcfgs (F := F)) defs₀ loops main 0 main_while0_cond main_while0_body rfl preI bodyI postI condOps preI_plain bodyI_plain postI_plain
    (fun c => by rw [main_chain]; rfl) (by rw [body_chain]; rfl) 10 m ρ (cond_spec m)

end Cert.RefRun

end
-- ==== Proof.RefValue.lean ====
/-  The values the reference's run leaves: each stretch of operations computes one of the functions of `RefFn`, a trip takes
    the codebook to the next one, and the result is `RefFn.result` of the arguments (`run`), which end unchanged. -/
module

public import proofs.«01_k».proof.Proof.RefRun
public import proofs.«01_k».proof.Proof.RefFn
public import Idealize.ShloMosaic.Lib.Quiescent

@[expose] public section

set_option maxRecDepth 16384

noncomputable section

namespace Cert.RefRun

open Cert.ReferenceIdeal Cert.ReferenceIdeal.Gen Cert.RefFn
open Idealize.ShloMosaic Idealize.ShloMosaic.TcCoe Idealize.ShloMosaic.Tactic
open Idealize.SL Idealize.SL.Sem
open Idealize.ShloMosaic.StableHlo

variable {F : FTy → Type} [FloatOps F]

/-! ## What each stretch computes, from any contents `V` -/

theorem bits_q (V : Valuation τ sig (Elt F)) : after bitsOps V (Proc.devRef .tc main_v0) = heads (V (Proc.devRef .tc main_arg0)) := by
  after_results <;> rfl

theorem bits_k (V : Valuation τ sig (Elt F)) : after bitsOps V (Proc.devRef .tc main_v1) = heads (V (Proc.devRef .tc main_arg1)) := by
  after_results <;> rfl

theorem bits_v (V : Valuation τ sig (Elt F)) : after bitsOps V (Proc.devRef .tc main_v2) = heads (V (Proc.devRef .tc main_arg2)) := by
  after_results <;> rfl

theorem bits_hash (V : Valuation τ sig (Elt F)) : after bitsOps V (Proc.devRef .tc main_v12) = hashBits (heads (V (Proc.devRef .tc main_arg0))) (V (Proc.devRef .tc main_arg4)) := by
  after_results <;> rfl

theorem bits_table (V : Valuation τ sig (Elt F)) : after bitsOps V (Proc.devRef .tc main_c) = (fun i => lit0 (S128.rowMajor i)) := by
  after_results <;> rfl

theorem bits_mask (V : Valuation τ sig (Elt F)) : after bitsOps V (Proc.devRef .tc main_c_0) = constantI S128 1 0#1 := by
  after_results <;> rfl

theorem start_hash (V : Valuation τ sig (Elt F)) : after startOps V (Proc.devRef .tc main_v21_0) = V (Proc.devRef .tc main_v12) := by
  after_results <;> rfl

theorem start_pop (V : Valuation τ sig (Elt F)) : after startOps V (Proc.devRef .tc main_v21_1) = V (Proc.devRef .tc main_v18) := by
  after_results <;> rfl

theorem start_code (V : Valuation τ sig (Elt F)) : after startOps V (Proc.devRef .tc main_v21_4) = V (Proc.devRef .tc main_v17) := by
  after_results <;> rfl

theorem dist_val (V : Valuation τ sig (Elt F)) : after distOps V (Proc.devRef .tc main_while0b_v62) = distances (V (Proc.devRef .tc main_v21_0)) (V (Proc.devRef .tc main_v21_1)) (V (Proc.devRef .tc main_v21_4)) := by
  after_results <;> rfl

theorem nearest_val (V : Valuation τ sig (Elt F)) : after nearestOps V (Proc.devRef .tc main_while0b_v63) = nearest (V (Proc.devRef .tc main_while0b_v62)) := by
  after_results <;> rfl

theorem assign_val (V : Valuation τ sig (Elt F)) : after assignOps V (Proc.devRef .tc main_while0b_v64) = oneHot (V (Proc.devRef .tc main_while0b_v63)) := by
  after_results <;> rfl

theorem recentre_sizes (V : Valuation τ sig (Elt F)) : after recentreOps V (Proc.devRef .tc main_while0b_v65) = sizes (V (Proc.devRef .tc main_while0b_v64)) := by
  after_results <;> rfl

theorem recentre_bits (V : Valuation τ sig (Elt F)) : after recentreOps V (Proc.devRef .tc main_while0b_v74) = majority (V (Proc.devRef .tc main_v21_0)) (V (Proc.devRef .tc main_while0b_v64)) := by
  after_results <;> rfl

theorem recentre_occ (V : Valuation τ sig (Elt F)) : after recentreOps V (Proc.devRef .tc main_while0b_v77) = occupied (F := F) (V (Proc.devRef .tc main_while0b_v64)) := by
  after_results <;> rfl

theorem keep_val (V : Valuation τ sig (Elt F)) : after keepOps V (Proc.devRef .tc main_while0b_v78) = keepWhere (V (Proc.devRef .tc main_while0b_v77)) (V (Proc.devRef .tc main_while0b_v74)) (V (Proc.devRef .tc main_v21_4)) := by
  after_results <;> rfl

theorem close_code (V : Valuation τ sig (Elt F)) : after closeOps V (Proc.devRef .tc main_v21_4) = V (Proc.devRef .tc main_while0b_v78) := by
  after_results <;> rfl

theorem close_assign (V : Valuation τ sig (Elt F)) : after closeOps V (Proc.devRef .tc main_v21_5) = V (Proc.devRef .tc main_while0b_v63) := by
  after_results <;> rfl

theorem close_sizes (V : Valuation τ sig (Elt F)) : after closeOps V (Proc.devRef .tc main_v21_6) = V (Proc.devRef .tc main_while0b_v65) := by
  after_results <;> rfl

theorem group_val (V : Valuation τ sig (Elt F)) : after groupOps V (Proc.devRef .tc main_v22) = oneHot (V (Proc.devRef .tc main_v21_5)) := by
  after_results <;> rfl

theorem mean_val (V : Valuation τ sig (Elt F)) : after meanOps V (Proc.devRef .tc main_v30) = means (V (Proc.devRef .tc main_v22)) (V (Proc.devRef .tc main_v21_6)) (V (Proc.devRef .tc main_v0)) := by
  after_results <;> rfl

theorem score_val (V : Valuation τ sig (Elt F)) : after scoreOps V (Proc.devRef .tc main_v36) = scores (V (Proc.devRef .tc main_v30)) (V (Proc.devRef .tc main_v1)) (V (Proc.devRef .tc main_arg3)) := by
  after_results <;> rfl

theorem top_val (V : Valuation τ sig (Elt F)) : after topOps V (Proc.devRef .tc main_v37) = Host.reduce FloatOps.maximumf (V (Proc.devRef .tc main_v36)) (constant S_ .f32 0xFF800000#32) reducesTo_S2x12x128x4096_S2x12x128_d3 h_S_ := by
  after_results <;> rfl

theorem top_low (V : Valuation τ sig (Elt F)) : after topOps V (Proc.devRef .tc main_v38) = broadcastInDim S2x12x128 ![] bcast_S_S2x12x128 (constant S_ .f32 0xFF800000#32) := by
  after_results <;> rfl

theorem mix_val (V : Valuation τ sig (Elt F)) : after mixOps V (Proc.devRef .tc main_v48) = mixed (V (Proc.devRef .tc main_v47)) (V (Proc.devRef .tc main_v2)) := by
  after_results <;> rfl

theorem mix_rows (V : Valuation τ sig (Elt F)) : after mixOps V (Proc.devRef .tc main_v49) = broadcastInDim S2x12x4096x1 ![0, 1, 2] bcast_S2x12x4096_S2x12x4096x1_0_1_2 (V (Proc.devRef .tc main_v21_5)) := by
  after_results <;> rfl

theorem out_val (V : Valuation τ sig (Elt F)) : after outOps V (Proc.devRef .tc main_v51) = transpose S2x4096x12x64 [0, 2, 1, 3] (V (Proc.devRef .tc main_v50)) transposes_S2x12x4096x64_S2x4096x12x64_0_2_1_3 := by
  after_results <;> rfl

theorem seed_code (V : Valuation τ sig (Elt F)) (hc : V (Proc.devRef .tc main_c) = (fun i => lit0 (S128.rowMajor i)))
    (hm : V (Proc.devRef .tc main_c_0) = constantI S128 1 0#1) :
    after seedOps V (Proc.devRef .tc main_v17) = seeds (V (Proc.devRef .tc main_v12)) := by
  after_results
  rw [hc, hm]
  rfl

theorem seed_pop (V : Valuation τ sig (Elt F)) :
    after seedOps V (Proc.devRef .tc main_v18) = bitsSet (V (Proc.devRef .tc main_v12)) := by
  after_results <;> rfl

theorem soft_val (V : Valuation τ sig (Elt F)) (s : FVec F S2x12x128x4096 .f32) (hs : V (Proc.devRef .tc main_v36) = s)
    (ht : V (Proc.devRef .tc main_v37) = Host.reduce FloatOps.maximumf s (constant S_ .f32 0xFF800000#32) reducesTo_S2x12x128x4096_S2x12x128_d3 h_S_)
    (hl : V (Proc.devRef .tc main_v38) = broadcastInDim S2x12x128 ![] bcast_S_S2x12x128 (constant S_ .f32 0xFF800000#32)) :
    after softOps V (Proc.devRef .tc main_v47) = weights s := by
  after_results
  rw [hs, ht, hl]
  rfl

theorem take_val (V : Valuation τ sig (Elt F)) (a : IVec S2x12x4096 32)
    (ha : V (Proc.devRef .tc main_v49) = broadcastInDim S2x12x4096x1 ![0, 1, 2] bcast_S2x12x4096_S2x12x4096x1_0_1_2 a) :
    after takeOps V (Proc.devRef .tc main_v50) = taken (V (Proc.devRef .tc main_v48)) a := by
  after_results
  rw [ha]
  simp only [cast_eq]
  rfl

/-! ## One trip, the ten trips, and the whole run -/

variable (m : (ℓ : Loc nD τ sig) → Buf (Elt F) ℓ) (ρ : Dev nD → PrngReg)

/-- A buffer that neither the condition nor a trip writes keeps its contents through the loop. -/
theorem atK_keep (c : Dev nD) (r : Ref sig .tc) (h₀ : r ∉ condOps_W) (h₁ : r ∉ distOps_W) (h₂ : r ∉ nearestOps_W)
    (h₃ : r ∉ assignOps_W) (h₄ : r ∉ recentreOps_W) (h₅ : r ∉ keepOps_W) (h₆ : r ∉ closeOps_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub closeOps _ closeOps_writes h₆, after_of_writes_sub keepOps _ keepOps_writes h₅,
      after_of_writes_sub recentreOps _ recentreOps_writes h₄, after_of_writes_sub assignOps _ assignOps_writes h₃,
      after_of_writes_sub nearestOps _ nearestOps_writes h₂, after_of_writes_sub distOps _ distOps_writes h₁,
      after_of_writes_sub condOps _ condOps_writes h₀, atK_keep c r h₀ h₁ h₂ h₃ h₄ h₅ h₆ k]
    rfl

/-- The hash bits of the memory's queries and planes. -/
abbrev hb (c : Dev nD) : FVec F S2x12x4096x32 .f32 :=
  hashBits (heads (m ((c.tc : Thread nD τ).loc main_arg0))) (m ((c.tc : Thread nD τ).loc main_arg4))

theorem entry_hash (c : Dev nD) : entryContents preI m c (Proc.devRef .tc main_v21_0) = hb m c := by
  simp only [entryContents, afterL_cons, afterL_nil]
  rw [start_hash, after_of_writes_sub seedOps _ seedOps_writes (by decide +kernel), bits_hash] <;> rfl

theorem entry_pop (c : Dev nD) : entryContents preI m c (Proc.devRef .tc main_v21_1) = bitsSet (hb m c) := by
  simp only [entryContents, afterL_cons, afterL_nil]
  rw [start_pop, seed_pop, bits_hash] <;> rfl

theorem entry_code (c : Dev nD) : entryContents preI m c (Proc.devRef .tc main_v21_4) = seeds (hb m c) := by
  simp only [entryContents, afterL_cons, afterL_nil]
  rw [start_code, seed_code _ (bits_table _) (bits_mask _), bits_hash] <;> rfl

/-- What a trip leaves of the assignment, the sizes and the codebook, from any contents. -/
theorem trip (V : Valuation τ sig (Elt F)) (h : FVec F S2x12x4096x32 .f32) (cb : FVec F S2x12x128x32 .f32)
    (h₀ : V (Proc.devRef .tc main_v21_0) = h) (h₁ : V (Proc.devRef .tc main_v21_1) = bitsSet h)
    (h₄ : V (Proc.devRef .tc main_v21_4) = cb) :
    afterL bodyI (after condOps V) (Proc.devRef .tc main_v21_4) = recentre h cb
    ∧ afterL bodyI (after condOps V) (Proc.devRef .tc main_v21_5) = assign h cb
    ∧ afterL bodyI (after condOps V) (Proc.devRef .tc main_v21_6) = sizes (oneHot (assign h cb)) := by
  have hd : after distOps (after condOps V) (Proc.devRef .tc main_while0b_v62) = distances h (bitsSet h) cb := by
    rw [dist_val, after_of_writes_sub condOps _ condOps_writes (by decide +kernel),
      after_of_writes_sub condOps _ condOps_writes (by decide +kernel),
      after_of_writes_sub condOps _ condOps_writes (by decide +kernel), h₀, h₁, h₄]
  have ha : after nearestOps (after distOps (after condOps V)) (Proc.devRef .tc main_while0b_v63) = assign h cb := by
    rw [nearest_val, hd]; rfl
  have ho : after assignOps (after nearestOps (after distOps (after condOps V))) (Proc.devRef .tc main_while0b_v64)
      = oneHot (assign h cb) := by rw [assign_val, ha]
  have hh : after assignOps (after nearestOps (after distOps (after condOps V))) (Proc.devRef .tc main_v21_0) = h := by
    rw [after_of_writes_sub assignOps _ assignOps_writes (by decide +kernel),
      after_of_writes_sub nearestOps _ nearestOps_writes (by decide +kernel),
      after_of_writes_sub distOps _ distOps_writes (by decide +kernel),
      after_of_writes_sub condOps _ condOps_writes (by decide +kernel), h₀]
  have hc : after recentreOps (after assignOps (after nearestOps (after distOps (after condOps V)))) (Proc.devRef .tc main_v21_4) = cb := by
    rw [after_of_writes_sub recentreOps _ recentreOps_writes (by decide +kernel),
      after_of_writes_sub assignOps _ assignOps_writes (by decide +kernel),
      after_of_writes_sub nearestOps _ nearestOps_writes (by decide +kernel),
      after_of_writes_sub distOps _ distOps_writes (by decide +kernel),
      after_of_writes_sub condOps _ condOps_writes (by decide +kernel), h₄]
  simp only [afterL_cons, afterL_nil]
  refine ⟨?_, ?_, ?_⟩
  · rw [close_code, keep_val, recentre_occ, recentre_bits, hc, ho, hh]; rfl
  · rw [close_assign, after_of_writes_sub keepOps _ keepOps_writes (by decide +kernel),
      after_of_writes_sub recentreOps _ recentreOps_writes (by decide +kernel),
      after_of_writes_sub assignOps _ assignOps_writes (by decide +kernel), ha]
  · rw [close_sizes, after_of_writes_sub keepOps _ keepOps_writes (by decide +kernel), recentre_sizes, ho]

theorem atK_hash (c : Dev nD) (k : ℕ) : atK m k c (Proc.devRef .tc main_v21_0) = hb m c := by
  rw [atK_keep m c main_v21_0 (by decide +kernel) (by decide +kernel) (by decide +kernel) (by decide +kernel)
    (by decide +kernel) (by decide +kernel) (by decide +kernel), entry_hash]

theorem atK_pop (c : Dev nD) (k : ℕ) : atK m k c (Proc.devRef .tc main_v21_1) = bitsSet (hb m c) := by
  rw [atK_keep m c main_v21_1 (by decide +kernel) (by decide +kernel) (by decide +kernel) (by decide +kernel)
    (by decide +kernel) (by decide +kernel) (by decide +kernel), entry_pop]

/-- Before the `k`-th condition the codebook is the one after `k` trips. -/
theorem atK_code (c : Dev nD) : ∀ k, atK m k c (Proc.devRef .tc main_v21_4) = codebook (hb m c) k
  | 0 => by rw [show atK m 0 c = entryContents preI m c from rfl, entry_code]; rfl
  | k + 1 => by
    rw [show atK m (k + 1) c = afterL bodyI (after condOps (atK m k c)) from rfl,
      (trip (atK m k c) (hb m c) (codebook (hb m c) k) (atK_hash m c k) (atK_pop m c k) (atK_code c k)).1,
      codebook, codebook, Function.iterate_succ_apply']

/-- The last trip's assignment and sizes. -/
theorem atK_last (c : Dev nD) :
    atK m 10 c (Proc.devRef .tc main_v21_5) = assign (hb m c) (codebook (hb m c) 9)
    ∧ atK m 10 c (Proc.devRef .tc main_v21_6) = sizes (oneHot (assign (hb m c) (codebook (hb m c) 9))) := by
  rw [show atK m 10 c = afterL bodyI (after condOps (atK m 9 c)) from rfl]
  exact (trip (atK m 9 c) (hb m c) (codebook (hb m c) 9) (atK_hash m c 9) (atK_pop m c 9) (atK_code m c 9)).2

/-- A buffer written by nothing but the first stretch: what it holds when the loop has ended. -/
theorem exit_keep (c : Dev nD) (r : Ref sig .tc) (h₀ : r ∉ condOps_W) (h₁ : r ∉ distOps_W) (h₂ : r ∉ nearestOps_W)
    (h₃ : r ∉ assignOps_W) (h₄ : r ∉ recentreOps_W) (h₅ : r ∉ keepOps_W) (h₆ : r ∉ closeOps_W) (h₇ : r ∉ seedOps_W)
    (h₈ : r ∉ startOps_W) :
    after condOps (atK m 10 c) (Proc.devRef .tc r) = after bitsOps (launchContents m c) (Proc.devRef .tc r) := by
  rw [after_of_writes_sub condOps _ condOps_writes h₀, atK_keep m c r h₀ h₁ h₂ h₃ h₄ h₅ h₆]
  simp only [entryContents, afterL_cons, afterL_nil]
  rw [after_of_writes_sub startOps _ startOps_writes h₈, after_of_writes_sub seedOps _ seedOps_writes h₇]

/-- The result buffer at the end of @main. -/
theorem final_result (c : Dev nD) : finalContents condOps preI bodyI postI 10 m c (Proc.devRef .tc main_v51)
    = RefFn.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  show afterL postI (after condOps (atK m 10 c)) (Proc.devRef .tc main_v51) = _
  obtain ⟨h5, h6⟩ := atK_last m c
  have k5 : after condOps (atK m 10 c) (Proc.devRef .tc main_v21_5) = assign (hb m c) (codebook (hb m c) 9) := by
    rw [after_of_writes_sub condOps _ condOps_writes (by decide +kernel), h5]
  have k6 : after condOps (atK m 10 c) (Proc.devRef .tc main_v21_6) = sizes (oneHot (assign (hb m c) (codebook (hb m c) 9))) := by
    rw [after_of_writes_sub condOps _ condOps_writes (by decide +kernel), h6]
  have e0 : after condOps (atK m 10 c) (Proc.devRef .tc main_v0) = heads (m ((c.tc : Thread nD τ).loc main_arg0)) := by
    rw [exit_keep m c main_v0 (by decide +kernel) (by decide +kernel) (by decide +kernel) (by decide +kernel) (by decide +kernel)
      (by decide +kernel) (by decide +kernel) (by decide +kernel) (by decide +kernel), bits_q] <;> rfl
  have e1 : after condOps (atK m 10 c) (Proc.devRef .tc main_v1) = heads (m ((c.tc : Thread nD τ).loc main_arg1)) := by
    rw [exit_keep m c main_v1 (by decide +kernel) (by decide +kernel) (by decide +kernel) (by decide +kernel) (by decide +kernel)
      (by decide +kernel) (by decide +kernel) (by decide +kernel) (by decide +kernel), bits_k] <;> rfl
  have e2 : after condOps (atK m 10 c) (Proc.devRef .tc main_v2) = heads (m ((c.tc : Thread nD τ).loc main_arg2)) := by
    rw [exit_keep m c main_v2 (by decide +kernel) (by decide +kernel) (by decide +kernel) (by decide +kernel) (by decide +kernel)
      (by decide +kernel) (by decide +kernel) (by decide +kernel) (by decide +kernel), bits_v] <;> rfl
  have e3 : after condOps (atK m 10 c) (Proc.devRef .tc main_arg3) = m ((c.tc : Thread nD τ).loc main_arg3) := by
    rw [exit_keep m c main_arg3 (by decide +kernel) (by decide +kernel) (by decide +kernel) (by decide +kernel) (by decide +kernel)
      (by decide +kernel) (by decide +kernel) (by decide +kernel) (by decide +kernel),
      after_of_writes_sub bitsOps _ bitsOps_writes (by decide +kernel)]
  generalize after condOps (atK m 10 c) = X at k5 k6 e0 e1 e2 e3 ⊢
  generalize hA : assign (hb m c) (codebook (hb m c) 9) = A at k5 k6
  simp only [afterL_cons, afterL_nil]
  have g1 : after scoreOps (after meanOps (after groupOps X)) (Proc.devRef .tc main_v36)
      = scores (means (oneHot A) (sizes (oneHot A)) (heads (m ((c.tc : Thread nD τ).loc main_arg0))))
          (heads (m ((c.tc : Thread nD τ).loc main_arg1))) (m ((c.tc : Thread nD τ).loc main_arg3)) := by
    rw [score_val, mean_val, group_val, after_of_writes_sub meanOps _ meanOps_writes (by decide +kernel),
      after_of_writes_sub meanOps _ meanOps_writes (by decide +kernel), after_of_writes_sub groupOps _ groupOps_writes (by decide +kernel),
      after_of_writes_sub groupOps _ groupOps_writes (by decide +kernel), after_of_writes_sub groupOps _ groupOps_writes (by decide +kernel),
      after_of_writes_sub groupOps _ groupOps_writes (by decide +kernel), k5, k6, e0, e1, e3]
  have g2 := soft_val (after topOps (after scoreOps (after meanOps (after groupOps X)))) _
    ((after_of_writes_sub topOps _ topOps_writes (by decide +kernel)).trans g1) (by rw [top_val, g1]) (by rw [top_low])
  have g3 : after softOps (after topOps (after scoreOps (after meanOps (after groupOps X)))) (Proc.devRef .tc main_v2)
      = heads (m ((c.tc : Thread nD τ).loc main_arg2)) := by
    rw [after_of_writes_sub softOps _ softOps_writes (by decide +kernel), after_of_writes_sub topOps _ topOps_writes (by decide +kernel),
      after_of_writes_sub scoreOps _ scoreOps_writes (by decide +kernel), after_of_writes_sub meanOps _ meanOps_writes (by decide +kernel),
      after_of_writes_sub groupOps _ groupOps_writes (by decide +kernel), e2]
  have g4 : after softOps (after topOps (after scoreOps (after meanOps (after groupOps X)))) (Proc.devRef .tc main_v21_5) = A := by
    rw [after_of_writes_sub softOps _ softOps_writes (by decide +kernel), after_of_writes_sub topOps _ topOps_writes (by decide +kernel),
      after_of_writes_sub scoreOps _ scoreOps_writes (by decide +kernel), after_of_writes_sub meanOps _ meanOps_writes (by decide +kernel),
      after_of_writes_sub groupOps _ groupOps_writes (by decide +kernel), k5]
  rw [out_val, take_val _ A (by rw [mix_rows, g4]), mix_val, g2, g3, RefFn.result, attend, hA]

/-- No stretch writes an argument. -/
theorem final_keep (c : Dev nD) (r : Ref sig .tc) (h₀ : r ∉ condOps_W) (h₁ : r ∉ distOps_W) (h₂ : r ∉ nearestOps_W)
    (h₃ : r ∉ assignOps_W) (h₄ : r ∉ recentreOps_W) (h₅ : r ∉ keepOps_W) (h₆ : r ∉ closeOps_W) (h₇ : r ∉ seedOps_W)
    (h₈ : r ∉ startOps_W) (h₉ : r ∉ bitsOps_W) (i₀ : r ∉ groupOps_W) (i₁ : r ∉ meanOps_W) (i₂ : r ∉ scoreOps_W) (i₃ : r ∉ topOps_W)
    (i₄ : r ∉ softOps_W) (i₅ : r ∉ mixOps_W) (i₆ : r ∉ takeOps_W) (i₇ : r ∉ outOps_W) :
    finalContents condOps preI bodyI postI 10 m c (Proc.devRef .tc r) = m ((c.tc : Thread nD τ).loc r) := by
  show afterL postI (after condOps (atK m 10 c)) (Proc.devRef .tc r) = _
  simp only [afterL_cons, afterL_nil]
  rw [after_of_writes_sub outOps _ outOps_writes i₇, after_of_writes_sub takeOps _ takeOps_writes i₆,
    after_of_writes_sub mixOps _ mixOps_writes i₅, after_of_writes_sub softOps _ softOps_writes i₄,
    after_of_writes_sub topOps _ topOps_writes i₃, after_of_writes_sub scoreOps _ scoreOps_writes i₂,
    after_of_writes_sub meanOps _ meanOps_writes i₁, after_of_writes_sub groupOps _ groupOps_writes i₀,
    exit_keep m c r h₀ h₁ h₂ h₃ h₄ h₅ h₆ h₇ h₈, after_of_writes_sub bitsOps _ bitsOps_writes h₉]

/-- THE REFERENCE'S RUN: every weakly fair execution terminates with the result buffer at `RefFn.result` of the arguments,
    the arguments unchanged and every counter at zero. -/
theorem run : θ_run (defs (F := F)) (onTc (τ := τ) (main (F := F))) ⟨m, fun _ => 0, ρ⟩ (fun r => (∀ c : Dev nD,
      r.2.mem ((c.tc : Thread nD τ).loc main_v51)
        = RefFn.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine (θ_run defs _ _).mono ?_ (run_fold m ρ)
  intro r h
  refine ⟨fun c => ⟨?_, ?_, ?_, ?_, ?_, ?_⟩, sem_eq_zero_of_no_sems rfl r.2⟩
  · exact (h c main_v51 rfl).trans (final_result m c)
  all_goals
    refine (h c _ rfl).trans (final_keep m c _ ?_ ?_ ?_ ?_ ?_ ?_ ?_ ?_ ?_ ?_ ?_ ?_ ?_ ?_ ?_ ?_ ?_ ?_) <;> decide +kernel

end Cert.RefRun

end
-- ==== Proof.lean ====
/-  The proof of `Cert.Claim`: the three programs run and leave their arguments alone, and kernel and reference agree
    on every argument array that `finite_scores` admits. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, and its arguments end unchanged. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run ReferenceIdeal.defs _ _).mono (fun _ h => ⟨fun c => (h.1 c).2, h.2⟩) (RefRun.run m g)

/-- Kernel and reference, started on the same arguments, end with the same result. -/
theorem same_result [Cert.Pre_finite_scores.Facts] : Cert.algebraic_KernelIdeal_ReferenceIdeal_pre_finite_scores := by
  intro m g m' g' hp ha
  refine ⟨KernelArray.result m, KernelArray.run m g, (θ_run ReferenceIdeal.defs _ _).mono (fun r h c => ⟨?_, (h.1 c).2⟩) (RefRun.run m' g')⟩
  obtain ⟨h0, h1, h2, h3, h4⟩ := ha c
  rw [(h.1 c).1, h0, h1, h2, h3, h4]
  exact Equal.result_eq m hp c

theorem claim : Cert.Claim :=
  ⟨Cert.Kernel.Gen.facts, Cert.KernelIdeal.Gen.facts, Cert.ReferenceIdeal.Gen.facts, Cert.Scores.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    @same_result Cert.Scores.facts⟩

end Cert.Proof

end
